-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S32x1x1024 : Shape := ⟨3, ![32, 1, 1024]⟩
abbrev S8x4096 : Shape := ⟨2, ![8, 4096]⟩
abbrev S1x3x1024 : Shape := ⟨3, ![1, 3, 1024]⟩
abbrev S1x3x4096 : Shape := ⟨3, ![1, 3, 4096]⟩
abbrev S1x1x1024 : Shape := ⟨3, ![1, 1, 1024]⟩
abbrev S3x4096 : Shape := ⟨2, ![3, 4096]⟩
abbrev S1x4096 : Shape := ⟨2, ![1, 4096]⟩
abbrev S4x4096 : Shape := ⟨2, ![4, 4096]⟩
abbrev S2x4096 : Shape := ⟨2, ![2, 4096]⟩
abbrev S6x4096 : Shape := ⟨2, ![6, 4096]⟩
abbrev S6x4032 : Shape := ⟨2, ![6, 4032]⟩
abbrev S3x1024 : Shape := ⟨2, ![3, 1024]⟩
abbrev S1x1024 : Shape := ⟨2, ![1, 1024]⟩
abbrev S8x1024 : Shape := ⟨2, ![8, 1024]⟩
abbrev S64x1024 : Shape := ⟨2, ![64, 1024]⟩
abbrev S8x64 : Shape := ⟨2, ![8, 64]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S32x1x1024, .f32⟩
  | .hbm, ⟨5, _⟩ => ⟨S32x1x1024, .i32⟩
  | .hbm, ⟨6, _⟩ => ⟨S8x4096, .f32⟩
  | .hbm, ⟨7, _⟩ => ⟨S8x4096, .i32⟩
  | .local _ .vmem, ⟨0, _⟩ => ⟨S1x3x1024, .f32⟩
  | .local _ .vmem, ⟨1, _⟩ => ⟨S1x3x1024, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .i32⟩
  | .local _ .vmem, ⟨7, _⟩ => ⟨S1x1x1024, .i32⟩
  | .local _ .vmem, ⟨8, _⟩ => ⟨S8x4096, .bf16⟩
  | .local _ .vmem, ⟨9, _⟩ => ⟨S8x4096, .bf16⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S8x4096x4096, .i32⟩
  | .hbm, ⟨21, _⟩ => ⟨S_, .f32⟩
  | .hbm, ⟨22, _⟩ => ⟨S_, .i32⟩
  | .hbm, ⟨23, _⟩ => ⟨S8x4096, .f32⟩
  | .hbm, ⟨24, _⟩ => ⟨S8x4096, .i32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Proof.Fold.lean ====
module

public import proofs.«01_k».proof.Proof.Gen.KernelIdeal.Frame
public import proofs.«01_k».proof.Proof.Gen.KernelIdeal.Skeleton
public import Idealize.ShloMosaic.Lib.ValueIdxCore

/-!
The 64 chunks of the unrolled search, as one recursion: what the kernel holds after its first `n` chunks.
-/

@[expose] public section

set_option maxRecDepth 16384

noncomputable section

namespace Cert.KernelIdeal.Hand

open Idealize.ShloMosaic Idealize.ShloMosaic.ValueIdx
open Cert.KernelIdeal Cert.KernelIdeal.Gen

variable {F : FTy → Type} [FloatOps F]

/-- 64 lanes of a scratch from lane `k` on. -/
def slab (xs : Vec F S8x4096 .bf16) (k : ℕ) : Vec F S8x64 .bf16 :=
  fun y => xs (ix2 (n0 := 8) (n1 := 4096) ⟨(y 0).val, (y 0).isLt⟩ ⟨(k + (y 1).val) % 4096, Nat.mod_lt _ (by decide)⟩)

/-- The operand of chunk `n`: even chunks read the first scratch, odd chunks the second, 128 lanes apart. -/
def chunk (xs0 xs1 : Vec F S8x4096 .bf16) (n : ℕ) : Vec F S8x64 .bf16 :=
  slab (bif n % 2 == 0 then xs0 else xs1) (128 * (n / 2))

/-- The distances of one chunk: 64 candidates by 1024 queries. -/
def dist (a : FVec F S8x1024 .bf16) (l : Vec F S8x64 .bf16) : FVec F S64x1024 .f32 :=
  matmul dot_S8x64_S8x1024_S64x1024_0_0_1_1_n_n none l a (constant S64x1024 .f32 0x00000000#32)

/-- The least distances of the first `n` chunks, by row and query. -/
def runMin (a : FVec F S8x1024 .bf16) (ld : ℕ → Vec F S8x64 .bf16) : ℕ → FVec F S64x1024 .f32
  | 0 => broadcast S64x1024 (Scalar.ofBits .f32 0x7F800000#32)
  | n + 1 => select (cmpf .olt (dist a (ld n)) (runMin a ld n)) (dist a (ld n)) (runMin a ld n)

/-- Where chunk `n` is strictly below the chunks before it. -/
def mask (a : FVec F S8x1024 .bf16) (ld : ℕ → Vec F S8x64 .bf16) (n : ℕ) : IVec S64x1024 1 :=
  cmpf .olt (dist a (ld n)) (runMin a ld n)

/-- The chunk each least distance of the first `n` chunks came from. -/
def runIdx (a : FVec F S8x1024 .bf16) (ld : ℕ → Vec F S8x64 .bf16) : ℕ → IVec S64x1024 32
  | 0 => broadcast S64x1024 0#32
  | n + 1 => select (mask a ld n) (broadcast S64x1024 (BitVec.ofNat 32 n)) (runIdx a ld n)

/-- The three registers between two parts of the body: the chunk numbers of the first `n` chunks, the comparison of chunk `n`, the least distances with it. -/
def Stage (a : FVec F S8x1024 .bf16) (ld : ℕ → Vec F S8x64 .bf16) (n : ℕ) (i : IVec S64x1024 32) (m : IVec S64x1024 1) (v : FVec F S64x1024 .f32) : Prop :=
  i = runIdx a ld n ∧ m = mask a ld n ∧ v = runMin a ld (n + 1)

/-- The block of least distances a point writes. -/
def outD (a : FVec F S8x1024 .bf16) (ld : ℕ → Vec F S8x64 .bf16) : FVec F S1x1x1024 .f32 :=
  k0_pay5 a (runMin a ld 63) (ld 63)

/-- The block of positions a point writes. -/
def outI (a : FVec F S8x1024 .bf16) (ld : ℕ → Vec F S8x64 .bf16) : IVec S1x1x1024 32 :=
  k0_pay6 a (runIdx a ld 62) (mask a ld 62) (runMin a ld 63) (ld 63)

/-- A load of 64 lanes from lane `k`, of given contents. -/
theorem ld_slab (xs : Vec F S8x4096 .bf16) (k : ℕ) (inb : ∀ a, (![0, k] : Fin 2 → ℕ) a + (![8, 64] : Fin 2 → ℕ) a ≤ (![8, 4096] : Fin 2 → ℕ) a) :
    View.ld xs (Rect.unit (s := S8x4096) ![0, k] ![8, 64] inb) = slab xs k := by
  have hk : k + 64 ≤ 4096 := inb 1
  funext y
  refine congrArg xs (funext fun a => ?_)
  match a with
  | ⟨0, _⟩ => exact Fin.ext (by show 0 + 1 * (y 0).val = (y 0).val; omega)
  | ⟨1, _⟩ => exact Fin.ext (by
      have hy : (y 1).val < 64 := (y 1).isLt
      show k + 1 * (y 1).val = (k + (y 1).val) % 4096
      rw [Nat.mod_eq_of_lt (by omega)]; omega)

/-- A load of 64 lanes from lane `k` of a whole scratch. -/
theorem readAt_slab {arg : Memref sig .tc .vmem S8x4096 .bf16} (h : arg.IsWhole) (xs : Vec F S8x4096 .bf16) (k : ℕ)
    (inb : ∀ a, (![0, k] : Fin 2 → ℕ) a + (![8, 64] : Fin 2 → ℕ) a ≤ (![8, 4096] : Fin 2 → ℕ) a) :
    arg.view.readAt (Elt F) (Rect.unit (s := S8x4096) ![0, k] ![8, 64] inb).toLoadRect (h.unread xs) = slab xs k := by
  show View.ld (arg.view.read (Elt F) (h.unread xs)) _ = _
  rw [h.read_unread, ld_slab]

end Cert.KernelIdeal.Hand

end
-- ==== Proof.Body.lean ====
module

public import proofs.«01_k».proof.Proof.Fold
public import Idealize.ShloMosaic.Lib.VecWindow

/-!
One run of the body, given what its first part leaves in the scratch and in registers.
-/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The condition under which a point fills the scratch: it is the first tile of its batch. -/
abbrev first (i : grid0.Coords) : Prop := (Scalar.cmpi .ne (Scalar.extui (Scalar.cmpi .eq (BitVec.ofNat 32 (i 1).val) 0#32)) 0#32) = 1#1

section
variable (c : Dev nD) (i : grid0.Coords) (arg2 : Memref sig .tc .vmem S1x3x1024 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S8x4096 .bf16) (harg6 : arg6.IsWhole) (arg7 : Memref sig .tc .vmem S8x4096 .bf16) (harg7 : arg7.IsWhole)
  (x0 : Vec F S1x3x1024 .f32) (x1 : Vec F S1x3x4096 .f32) (xs0 xs1 : Vec F S8x4096 .bf16)

/-- The two inputs and the two scratches, with their contents. -/
def held : sProp 𝕄 :=
  iprop(owns (c : Thread nD τ) arg2 fullShare x0 ∗ owns (c : Thread nD τ) arg3 fullShare x1 ∗ owns (c : Thread nD τ) arg6 fullShare xs0 ∗ owns (c : Thread nD τ) arg7 fullShare xs1)

/-- What the first part hands on: the query operand and the state of the first three chunks. -/
def handed : Σ' (_ : FVec F S8x1024 .bf16) (_ : IVec S64x1024 32) (_ : IVec S64x1024 1), FVec F S64x1024 .f32 :=
  ⟨k0_pay22 x0, runIdx (k0_pay22 x0) (chunk xs0 xs1) 2, mask (k0_pay22 x0) (chunk xs0 xs1) 2, runMin (k0_pay22 x0) (chunk xs0 xs1) 3⟩

set_option maxHeartbeats 4000000 in
/-- The whole body, from a run of its first part: the two output blocks are what the 64 chunks give. -/
theorem body_of_part2 (P : sProp 𝕄) (E : Set ℕ)
    (h2 : ∀ Q : _ → sProp 𝕄, iprop(P ∗ (held c arg2 arg3 arg6 arg7 x0 x1 xs0 xs1 -∗ Q (handed x0 xs0 xs1)))
      ⊢ wp frame (wpE (defs₀ (F := F)) Variants.none c none) E (k0_part2 i arg2 harg2 arg3 harg3 arg4 harg4 arg5 harg5 arg6 harg6 arg7 harg7) Q)
    (K : PUnit → sProp 𝕄) :
    iprop(P ∗ (∃ d, owns (c : Thread nD τ) arg4 fullShare d) ∗ (∃ d, owns (c : Thread nD τ) arg5 fullShare d)
        ∗ (iprop(held c arg2 arg3 arg6 arg7 x0 x1 xs0 xs1
            ∗ owns (c : Thread nD τ) arg4 fullShare (outD (k0_pay22 x0) (chunk xs0 xs1))
            ∗ owns (c : Thread nD τ) arg5 fullShare (outI (k0_pay22 x0) (chunk xs0 xs1))) -∗ K ⟨⟩))
      ⊢ wp frame (wpE (defs₀ (F := F)) Variants.none c none) E (cc0__chamfer_body i arg2 harg2 arg3 harg3 arg4 harg4 arg5 harg5 arg6 harg6 arg7 harg7) K := by
  rw [cc0__chamfer_body_eq_skeleton]; unfold cc0__chamfer_body_skel
  rw [wp_bind]
  refine BIBase.Entails.trans ?_ (h2 _)
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold held handed
  iintro ⟨HP, ⟨%d2, H2⟩, ⟨%d3, H3⟩, Hk⟩
  isplitl [HP]
  · iexact HP
  unfold owns
  iintro ⟨⟨%f0, %hf0, H0⟩, ⟨%f1, %hf1, H1⟩, ⟨%fs0, %hfs0, HS0⟩, ⟨%fs1, %hfs1, HS1⟩⟩
  icases H2 with ⟨%f2, -, H2⟩
  icases H3 with ⟨%f3, -, H3⟩
  obtain rfl := harg2.eq_unread hf0; obtain rfl := harg3.eq_unread hf1; obtain rfl := harg6.eq_unread hfs0; obtain rfl := harg7.eq_unread hfs1
  sl_exec
  have e0 : Stage (k0_pay22 x0) (chunk xs0 xs1) 8 (body_of_part2.sl.r c arg6 harg6 arg7 harg7 x0 xs0 xs1) (body_of_part2.sl.r_1 c arg6 harg6 arg7 harg7 x0 xs0 xs1) (body_of_part2.sl.r_2 c arg6 harg6 arg7 harg7 x0 xs0 xs1) := by
    delta body_of_part2.sl.r body_of_part2.sl.r_1 body_of_part2.sl.r_2; simp only [readAt_slab]; exact ⟨rfl, rfl, rfl⟩
  have e1 : Stage (k0_pay22 x0) (chunk xs0 xs1) 14 (body_of_part2.sl.r_3 c arg6 harg6 arg7 harg7 x0 xs0 xs1) (body_of_part2.sl.r_4 c arg6 harg6 arg7 harg7 x0 xs0 xs1) (body_of_part2.sl.r_5 c arg6 harg6 arg7 harg7 x0 xs0 xs1) := by
    delta body_of_part2.sl.r_3 body_of_part2.sl.r_4 body_of_part2.sl.r_5; simp only [readAt_slab, e0.1, e0.2.1, e0.2.2]; exact ⟨rfl, rfl, rfl⟩
  have e2 : Stage (k0_pay22 x0) (chunk xs0 xs1) 20 (body_of_part2.sl.r_6 c arg6 harg6 arg7 harg7 x0 xs0 xs1) (body_of_part2.sl.r_7 c arg6 harg6 arg7 harg7 x0 xs0 xs1) (body_of_part2.sl.r_8 c arg6 harg6 arg7 harg7 x0 xs0 xs1) := by
    delta body_of_part2.sl.r_6 body_of_part2.sl.r_7 body_of_part2.sl.r_8; simp only [readAt_slab, e1.1, e1.2.1, e1.2.2]; exact ⟨rfl, rfl, rfl⟩
  have e3 : Stage (k0_pay22 x0) (chunk xs0 xs1) 26 (body_of_part2.sl.r_9 c arg6 harg6 arg7 harg7 x0 xs0 xs1) (body_of_part2.sl.r_10 c arg6 harg6 arg7 harg7 x0 xs0 xs1) (body_of_part2.sl.r_11 c arg6 harg6 arg7 harg7 x0 xs0 xs1) := by
    delta body_of_part2.sl.r_9 body_of_part2.sl.r_10 body_of_part2.sl.r_11; simp only [readAt_slab, e2.1, e2.2.1, e2.2.2]; exact ⟨rfl, rfl, rfl⟩
  have e4 : Stage (k0_pay22 x0) (chunk xs0 xs1) 32 (body_of_part2.sl.r_12 c arg6 harg6 arg7 harg7 x0 xs0 xs1) (body_of_part2.sl.r_13 c arg6 harg6 arg7 harg7 x0 xs0 xs1) (body_of_part2.sl.r_14 c arg6 harg6 arg7 harg7 x0 xs0 xs1) := by
    delta body_of_part2.sl.r_12 body_of_part2.sl.r_13 body_of_part2.sl.r_14; simp only [readAt_slab, e3.1, e3.2.1, e3.2.2]; exact ⟨rfl, rfl, rfl⟩
  have e5 : Stage (k0_pay22 x0) (chunk xs0 xs1) 38 (body_of_part2.sl.r_15 c arg6 harg6 arg7 harg7 x0 xs0 xs1) (body_of_part2.sl.r_16 c arg6 harg6 arg7 harg7 x0 xs0 xs1) (body_of_part2.sl.r_17 c arg6 harg6 arg7 harg7 x0 xs0 xs1) := by
    delta body_of_part2.sl.r_15 body_of_part2.sl.r_16 body_of_part2.sl.r_17; simp only [readAt_slab, e4.1, e4.2.1, e4.2.2]; exact ⟨rfl, rfl, rfl⟩
  have e6 : Stage (k0_pay22 x0) (chunk xs0 xs1) 44 (body_of_part2.sl.r_18 c arg6 harg6 arg7 harg7 x0 xs0 xs1) (body_of_part2.sl.r_19 c arg6 harg6 arg7 harg7 x0 xs0 xs1) (body_of_part2.sl.r_20 c arg6 harg6 arg7 harg7 x0 xs0 xs1) := by
    delta body_of_part2.sl.r_18 body_of_part2.sl.r_19 body_of_part2.sl.r_20; simp only [readAt_slab, e5.1, e5.2.1, e5.2.2]; exact ⟨rfl, rfl, rfl⟩
  have e7 : Stage (k0_pay22 x0) (chunk xs0 xs1) 50 (body_of_part2.sl.r_21 c arg6 harg6 arg7 harg7 x0 xs0 xs1) (body_of_part2.sl.r_22 c arg6 harg6 arg7 harg7 x0 xs0 xs1) (body_of_part2.sl.r_23 c arg6 harg6 arg7 harg7 x0 xs0 xs1) := by
    delta body_of_part2.sl.r_21 body_of_part2.sl.r_22 body_of_part2.sl.r_23; simp only [readAt_slab, e6.1, e6.2.1, e6.2.2]; exact ⟨rfl, rfl, rfl⟩
  have e8 : Stage (k0_pay22 x0) (chunk xs0 xs1) 56 (body_of_part2.sl.r_24 c arg6 harg6 arg7 harg7 x0 xs0 xs1) (body_of_part2.sl.r_25 c arg6 harg6 arg7 harg7 x0 xs0 xs1) (body_of_part2.sl.r_26 c arg6 harg6 arg7 harg7 x0 xs0 xs1) := by
    delta body_of_part2.sl.r_24 body_of_part2.sl.r_25 body_of_part2.sl.r_26; simp only [readAt_slab, e7.1, e7.2.1, e7.2.2]; exact ⟨rfl, rfl, rfl⟩
  have e9 : Stage (k0_pay22 x0) (chunk xs0 xs1) 62 (body_of_part2.sl.r_27 c arg6 harg6 arg7 harg7 x0 xs0 xs1) (body_of_part2.sl.r_28 c arg6 harg6 arg7 harg7 x0 xs0 xs1) (body_of_part2.sl.r_29 c arg6 harg6 arg7 harg7 x0 xs0 xs1) := by
    delta body_of_part2.sl.r_27 body_of_part2.sl.r_28 body_of_part2.sl.r_29; simp only [readAt_slab, e8.1, e8.2.1, e8.2.2]; exact ⟨rfl, rfl, rfl⟩
  sl_step
  iapply Hk
  isplitl [H0 H1 HS0 HS1]
  · isplitl [H0]
    · iexists _; isplitr; · ipureintro; exact harg2.read_unread _
      iexact H0
    isplitl [H1]
    · iexists _; isplitr; · ipureintro; exact harg3.read_unread _
      iexact H1
    isplitl [HS0]
    · iexists _; isplitr; · ipureintro; exact harg6.read_unread _
      iexact HS0
    · iexists _; isplitr; · ipureintro; exact harg7.read_unread _
      iexact HS1
  isplitl [H2]
  · iexists _; isplitr
    swap; iexact H2
    ipureintro
    rw [View.read_writes_full]
    simp only [readAt_slab, e9.1, e9.2.1, e9.2.2]
    rfl
  · iexists _; isplitr
    swap; iexact H3
    ipureintro
    rw [View.read_writes_full]
    simp only [readAt_slab, e9.1, e9.2.1, e9.2.2]
    rfl
end

end Cert.KernelIdeal.Hand

end
-- ==== Proof.Fill.lean ====
module

public import proofs.«01_k».proof.Proof.Fold
public import Idealize.ShloMosaic.Lib.VecWindow
public import Idealize.ShloMosaic.Lib.ValueIdxCore
public import Idealize.ShloMosaic.Lib.Pipeline.Value

/-!
What the first tile of a batch leaves in the two scratches, index by index.
-/

@[expose] public section

set_option maxRecDepth 16384

noncomputable section

namespace Cert.KernelIdeal.Hand

open Idealize.ShloMosaic Idealize.ShloMosaic.ValueIdx
open Cert.KernelIdeal Cert.KernelIdeal.Gen

variable {F : FTy → Type} [FloatOps F]

section
variable {α : Type} {s : Shape}

/-- Inside the window put, the payload. -/
theorem put_in (d : s.Idx → α) (off size : Fin s.rank → ℕ) (w : ((a : Fin s.rank) → Fin (size a)) → α) (y : s.Idx)
    (x : (a : Fin s.rank) → Fin (size a)) (h : ∀ a, (y a).val = off a + (x a).val) : VecWindow.put d off size w y = w x := by
  have hin : ∀ a, off a ≤ (y a).val ∧ (y a).val < off a + size a := fun a => by have := h a; have := (x a).isLt; omega
  unfold VecWindow.put
  rw [dif_pos hin]
  exact congrArg w (funext fun a => Fin.ext (by
    show (y a).val - off a = (x a).val
    have := h a; omega))

/-- Outside the window put, on some axis, what was there. -/
theorem put_out (d : s.Idx → α) (off size : Fin s.rank → ℕ) (w : ((a : Fin s.rank) → Fin (size a)) → α) (y : s.Idx)
    (a : Fin s.rank) (h : (y a).val < off a ∨ off a + size a ≤ (y a).val) : VecWindow.put d off size w y = d y := by
  unfold VecWindow.put
  rw [dif_neg fun hin => by have := hin a; omega]

/-- Inside the slice replaced, the new slice. -/
theorem upd_in {u : Shape} (d : s.Idx → α) (w : u.Idx → α) (start : Fin s.rank → ℕ) (h : s.Slices start u) (y : s.Idx) (x : u.Idx)
    (hx : ∀ a : Fin s.rank, (y a).val = start a + (x (a.cast h.1.symm)).val) : updateSlice d w start h y = w x := by
  have hin : ∀ a : Fin s.rank, start a ≤ (y a).val ∧ (y a).val < start a + u.size (a.cast h.1.symm) := fun a => by
    have := hx a; have := (x (a.cast h.1.symm)).isLt; omega
  unfold updateSlice
  rw [dif_pos hin]
  exact congrArg w (funext fun b => Fin.ext (by
    show (y (b.cast h.1)).val - start (b.cast h.1) = (x b).val
    have e := hx (b.cast h.1)
    have e' : (x ((b.cast h.1).cast h.1.symm)).val = (x b).val := rfl
    omega))

/-- Outside the slice replaced, on some axis, what was there. -/
theorem upd_out {u : Shape} (d : s.Idx → α) (w : u.Idx → α) (start : Fin s.rank → ℕ) (h : s.Slices start u) (y : s.Idx)
    (a : Fin s.rank) (ha : (y a).val < start a ∨ start a + u.size (a.cast h.1.symm) ≤ (y a).val) : updateSlice d w start h y = d y := by
  unfold updateSlice
  rw [dif_neg fun hin => by have := hin a; omega]
end

/-- Arrays stacked on the row axis, read at a row of the `k`th of them. -/
theorem stack_apply {α : Type} {N M n : ℕ} (xs : List ((s : Shape) × (s.Idx → α))) (h : Shape.Concatenates (xs.map (·.1)) ⟨2, ![N, M]⟩ 0)
    (k : ℕ) (hk : k < xs.length) (x : (⟨2, ![n, M]⟩ : Shape).Idx → α) (hx : xs[k] = ⟨⟨2, ![n, M]⟩, x⟩) (pre : ℕ)
    (hpre : (((xs.take k).map (·.1)).map fun s => if h : s.rank = 2 then s.size ((0 : Fin 2).cast h.symm) else 0).sum = pre)
    (r : Fin N) (r' : Fin n) (l : Fin M) (e : pre + r'.val = r.val) : concatenate ⟨2, ![N, M]⟩ 0 xs h (ix2 r l) = x (ix2 r' l) :=
  concatenate_apply_piece (t := ⟨2, ![N, M]⟩) (0 : Fin 2) xs h (ix2 r l) k hk ⟨2, ![n, M]⟩ x hx rfl pre hpre (ix2 r' l)
    (fun | ⟨0, _⟩, h => absurd rfl h | ⟨1, _⟩, _ => rfl) e

/-- A row inside the whole rows put. -/
theorem rows_in {α : Type} (d : S8x4096.Idx → α) (o n : ℕ) (w : (⟨2, ![n, 4096]⟩ : Shape).Idx → α) (r : Fin 8) (k : Fin n) (l : Fin 4096)
    (h : r.val = o + k.val) : VecWindow.put (s := S8x4096) d ![o, 0] ![n, 4096] w (ix2 (n0 := 8) (n1 := 4096) r l) = w (ix2 (n0 := n) (n1 := 4096) k l) :=
  put_in (s := S8x4096) d ![o, 0] ![n, 4096] w (ix2 (n0 := 8) (n1 := 4096) r l) (ix2 (n0 := n) (n1 := 4096) k l) fun
    | ⟨0, _⟩ => h
    | ⟨1, _⟩ => (Nat.zero_add _).symm

/-- A row outside the whole rows put. -/
theorem rows_out {α : Type} (d : S8x4096.Idx → α) (o n : ℕ) (w : (⟨2, ![n, 4096]⟩ : Shape).Idx → α) (r : Fin 8) (l : Fin 4096)
    (h : r.val < o ∨ o + n ≤ r.val) : VecWindow.put (s := S8x4096) d ![o, 0] ![n, 4096] w (ix2 (n0 := 8) (n1 := 4096) r l) = d (ix2 (n0 := 8) (n1 := 4096) r l) :=
  put_out (s := S8x4096) d ![o, 0] ![n, 4096] w _ (0 : Fin 2) h

/-- A row inside the rows replaced. -/
theorem updRows_in {α : Type} (n m o : ℕ) (d : (⟨2, ![n, 4096]⟩ : Shape).Idx → α) (w : (⟨2, ![m, 4096]⟩ : Shape).Idx → α)
    (h : (⟨2, ![n, 4096]⟩ : Shape).Slices ![o, 0] ⟨2, ![m, 4096]⟩) (r : Fin n) (k : Fin m) (l : Fin 4096) (hr : r.val = o + k.val) :
    updateSlice d w ![o, 0] h (ix2 r l) = w (ix2 k l) :=
  upd_in d w ![o, 0] h (ix2 r l) (ix2 k l) fun
    | ⟨0, _⟩ => hr
    | ⟨1, _⟩ => (Nat.zero_add _).symm

/-- A row outside the rows replaced. -/
theorem updRows_out {α : Type} (n m o : ℕ) (d : (⟨2, ![n, 4096]⟩ : Shape).Idx → α) (w : (⟨2, ![m, 4096]⟩ : Shape).Idx → α)
    (h : (⟨2, ![n, 4096]⟩ : Shape).Slices ![o, 0] ⟨2, ![m, 4096]⟩) (r : Fin n) (l : Fin 4096) (hr : r.val < o ∨ o + m ≤ r.val) :
    updateSlice d w ![o, 0] h (ix2 r l) = d (ix2 r l) :=
  upd_out d w ![o, 0] h (ix2 r l) (0 : Fin 2) hr

/-- The first scratch of a batch with candidates `x1`: three coordinate rows, three rows of squared norms, two rows of ones. -/
def scr0 (x1 : Vec F S1x3x4096 .f32) : Vec F S8x4096 .bf16 := fun y =>
  if h : (y 0).val < 3 then k0_pay14 x1 (ix2 (n0 := 3) (n1 := 4096) ⟨(y 0).val, h⟩ (y 1))
  else if (y 0).val = 3 then k0_pay15 x1 (ix2 (n0 := 1) (n1 := 4096) 0 (y 1))
  else if (y 0).val = 4 then k0_pay16 x1 (ix2 (n0 := 1) (n1 := 4096) 0 (y 1))
  else if (y 0).val = 5 then k0_pay17 x1 (ix2 (n0 := 1) (n1 := 4096) 0 (y 1))
  else k0_pay18 (ix2 (n0 := 2) (n1 := 4096) 0 (y 1))

/-- The five stores of the first scratch, in order, leave `scr0`, whatever was there. -/
theorem fill0 (x1 : Vec F S1x3x4096 .f32) (d : Vec F S8x4096 .bf16) (o0 : S4x4096.Idx → F .bf16) (o1 o2 o3 : S2x4096.Idx → F .bf16)
    (h1 : ∀ l, o1 (ix2 (n0 := 2) (n1 := 4096) 0 l) = k0_pay14 x1 (ix2 (n0 := 3) (n1 := 4096) 2 l))
    (h3 : ∀ l, o3 (ix2 (n0 := 2) (n1 := 4096) 0 l) = k0_pay16 x1 (ix2 (n0 := 1) (n1 := 4096) 0 l)) :
    VecWindow.put (s := S8x4096) (VecWindow.put (s := S8x4096) (VecWindow.put (s := S8x4096) (VecWindow.put (s := S8x4096) (VecWindow.put (s := S8x4096) d
      ![0, 0] ![4, 4096] (updateSlice o0 (k0_pay14 x1) ![0, 0] slices_S4x4096_S3x4096_0_0))
      ![2, 0] ![2, 4096] (updateSlice o1 (k0_pay15 x1) ![1, 0] slices_S2x4096_S1x4096_1_0))
      ![4, 0] ![2, 4096] (updateSlice o2 (k0_pay16 x1) ![0, 0] slices_S2x4096_S1x4096_0_0))
      ![4, 0] ![2, 4096] (updateSlice o3 (k0_pay17 x1) ![1, 0] slices_S2x4096_S1x4096_1_0))
      ![6, 0] ![2, 4096] k0_pay18 = scr0 x1 := by
  funext y
  obtain ⟨r, l, rfl⟩ : ∃ (r : Fin 8) (l : Fin 4096), y = ix2 r l := ⟨y 0, y 1, eq_ix2 y⟩
  have hr : r.val < 8 := r.isLt
  by_cases c6 : 6 ≤ r.val
  · rw [rows_in _ 6 2 _ r ⟨r.val - 6, by omega⟩ l (by show r.val = 6 + (r.val - 6); omega)]
    unfold scr0
    rw [dif_neg (show ¬ r.val < 3 by omega), if_neg (show ¬ r.val = 3 by omega), if_neg (show ¬ r.val = 4 by omega), if_neg (show ¬ r.val = 5 by omega)]
    rfl
  rw [rows_out _ 6 2 _ r l (by omega)]
  by_cases c5 : r.val = 5
  · rw [rows_in _ 4 2 _ r 1 l c5, updRows_in 2 1 1 _ _ _ 1 0 l rfl]
    unfold scr0
    rw [dif_neg (show ¬ r.val < 3 by omega), if_neg (show ¬ r.val = 3 by omega), if_neg (show ¬ r.val = 4 by omega), if_pos c5]
  by_cases c4 : r.val = 4
  · rw [rows_in _ 4 2 _ r 0 l c4, updRows_out 2 1 1 _ _ _ 0 l (by decide), h3]
    unfold scr0
    rw [dif_neg (show ¬ r.val < 3 by omega), if_neg (show ¬ r.val = 3 by omega), if_pos c4]
  rw [rows_out _ 4 2 _ r l (by omega), rows_out _ 4 2 _ r l (by omega)]
  by_cases c3 : r.val = 3
  · rw [rows_in _ 2 2 _ r 1 l c3, updRows_in 2 1 1 _ _ _ 1 0 l rfl]
    unfold scr0
    rw [dif_neg (show ¬ r.val < 3 by omega), if_pos c3]
  have e : scr0 x1 (ix2 (n0 := 8) (n1 := 4096) r l) = k0_pay14 x1 (ix2 (n0 := 3) (n1 := 4096) ⟨r.val, by omega⟩ l) := by
    unfold scr0
    rw [dif_pos (show r.val < 3 by omega)]
  rw [e]
  by_cases c2 : r.val = 2
  · rw [rows_in _ 2 2 _ r 0 l c2, updRows_out 2 1 1 _ _ _ 0 l (by decide), h1]
    exact congrArg (fun k => k0_pay14 x1 (ix2 (n0 := 3) (n1 := 4096) k l)) (Fin.ext c2.symm)
  rw [rows_out _ 2 2 _ r l (by omega), rows_in _ 0 4 _ r ⟨r.val, by omega⟩ l (Nat.zero_add _).symm,
    updRows_in 4 3 0 _ _ _ _ ⟨r.val, by omega⟩ l (Nat.zero_add _).symm]

/-- The second scratch after its two stores, over what was there. -/
def scr1 (x1 : Vec F S1x3x4096 .f32) (d : Vec F S8x4096 .bf16) : Vec F S8x4096 .bf16 :=
  VecWindow.put (s := S8x4096) (VecWindow.put (s := S8x4096) d ![0, 0] ![6, 4032] (k0_pay20 (k0_pay19 x1))) ![6, 0] ![2, 4096] k0_pay21

/-- Below lane 4032 the second scratch is the first one shifted by 64 lanes. -/
def Shifted (x1 : Vec F S1x3x4096 .f32) (xs1 : Vec F S8x4096 .bf16) : Prop :=
  ∀ (r : Fin 8) (l : Fin 4096) (l' : Fin 4096), l'.val = l.val + 64 → xs1 (ix2 (n0 := 8) (n1 := 4096) r l) = scr0 x1 (ix2 (n0 := 8) (n1 := 4096) r l')

theorem shifted_scr1 (x1 : Vec F S1x3x4096 .f32) (d : Vec F S8x4096 .bf16) : Shifted x1 (scr1 x1 d) := fun r l l' hl => by
  have hr : r.val < 8 := r.isLt
  unfold scr1
  by_cases c6 : 6 ≤ r.val
  · rw [rows_in _ 6 2 _ r ⟨r.val - 6, by omega⟩ l (by show r.val = 6 + (r.val - 6); omega)]
    unfold scr0
    rw [dif_neg (show ¬ r.val < 3 by omega), if_neg (show ¬ r.val = 3 by omega), if_neg (show ¬ r.val = 4 by omega), if_neg (show ¬ r.val = 5 by omega)]
    rfl
  rw [rows_out _ 6 2 _ r l (by omega)]
  have hl4 : l.val < 4032 := by have := l'.isLt; omega
  rw [put_in (s := S8x4096) d ![0, 0] ![6, 4032] _ (ix2 (n0 := 8) (n1 := 4096) r l) (ix2 (n0 := 6) (n1 := 4032) ⟨r.val, by omega⟩ ⟨l.val, hl4⟩) fun
    | ⟨0, _⟩ => (Nat.zero_add _).symm
    | ⟨1, _⟩ => (Nat.zero_add _).symm]
  have cut : k0_pay20 (k0_pay19 x1) (ix2 (n0 := 6) (n1 := 4032) ⟨r.val, by omega⟩ ⟨l.val, hl4⟩)
      = concatenate S6x4096 0 [⟨S3x4096, k0_pay13 x1⟩, ⟨S1x4096, k0_pay9 x1⟩, ⟨S1x4096, k0_pay11 x1⟩, ⟨S1x4096, k0_pay12 x1⟩]
          concatenates_S3x4096_S1x4096_S1x4096_S1x4096_S6x4096_d0 (ix2 (n0 := 6) (n1 := 4096) ⟨r.val, by omega⟩ l') := by
    unfold k0_pay20 k0_pay19
    rw [shapeCast_self]
    exact extractStridedSlice_apply _ _ _ _ _ fun
      | ⟨0, _⟩ => (Nat.zero_add _).symm
      | ⟨1, _⟩ => by show l'.val = 64 + l.val; omega
  rw [cut]
  unfold scr0
  by_cases c3 : r.val < 3
  · rw [dif_pos (show r.val < 3 from c3)]
    refine (stack_apply (N := 6) (n := 3) _ _ 0 (by show 0 < 4; decide) (k0_pay13 x1) rfl 0 rfl _ ⟨r.val, c3⟩ l' (Nat.zero_add _)).trans ?_
    unfold k0_pay14
    rw [shapeCast_self]
  rw [dif_neg (show ¬ r.val < 3 from c3)]
  by_cases c : r.val = 3
  · rw [if_pos (show r.val = 3 from c)]
    refine (stack_apply (N := 6) (n := 1) _ _ 1 (by show 1 < 4; decide) (k0_pay9 x1) rfl 3 rfl _ 0 l' c.symm).trans ?_
    unfold k0_pay15
    rw [shapeCast_self]
  rw [if_neg (show ¬ r.val = 3 from c)]
  by_cases c : r.val = 4
  · rw [if_pos (show r.val = 4 from c)]
    refine (stack_apply (N := 6) (n := 1) _ _ 2 (by show 2 < 4; decide) (k0_pay11 x1) rfl 4 rfl _ 0 l' c.symm).trans ?_
    unfold k0_pay16
    rw [shapeCast_self]
  rw [if_neg (show ¬ r.val = 4 from c), if_pos (show r.val = 5 by omega)]
  refine (stack_apply (N := 6) (n := 1) _ _ 3 (by show 3 < 4; decide) (k0_pay12 x1) rfl 5 rfl _ 0 l' (show 5 + 0 = r.val by omega)).trans ?_
  unfold k0_pay17
  rw [shapeCast_self]

/-- Sixty-four lanes of the first scratch are the candidates `64 n`, …, `64 n + 63`, whichever scratch chunk `n` reads. -/
theorem chunk_eq (x1 : Vec F S1x3x4096 .f32) (xs1 : Vec F S8x4096 .bf16) (h : Shifted x1 xs1) (n : ℕ) (hn : n < 64) :
    chunk (scr0 x1) xs1 n = slab (scr0 x1) (64 * n) := by
  funext y
  have hy : (y 1).val < 64 := (y 1).isLt
  unfold chunk
  rcases Nat.even_or_odd' n with ⟨m, rfl | rfl⟩
  · rw [show (2 * m) % 2 = 0 by omega, show 2 * m / 2 = m by omega, show 64 * (2 * m) = 128 * m by omega]
    rfl
  · rw [show (2 * m + 1) % 2 = 1 by omega, show (2 * m + 1) / 2 = m by omega]
    exact h ⟨(y 0).val, (y 0).isLt⟩ ⟨(128 * m + (y 1).val) % 4096, Nat.mod_lt _ (by decide)⟩
      ⟨(64 * (2 * m + 1) + (y 1).val) % 4096, Nat.mod_lt _ (by decide)⟩ (by
        show (64 * (2 * m + 1) + (y 1).val) % 4096 = (128 * m + (y 1).val) % 4096 + 64
        rw [Nat.mod_eq_of_lt (by omega), Nat.mod_eq_of_lt (by omega)]; omega)

theorem runMin_congr (a : FVec F S8x1024 .bf16) {ld ld' : ℕ → Vec F S8x64 .bf16} (k : ℕ) (h : ∀ n < k, ld n = ld' n) :
    runMin a ld k = runMin a ld' k := by
  induction k with
  | zero => rfl
  | succ k ih =>
    have hk := ih fun n hn => h n (by omega)
    simp only [runMin, hk, h k (by omega)]

theorem runIdx_congr (a : FVec F S8x1024 .bf16) {ld ld' : ℕ → Vec F S8x64 .bf16} (k : ℕ) (h : ∀ n < k, ld n = ld' n) :
    runIdx a ld k = runIdx a ld' k := by
  induction k with
  | zero => rfl
  | succ k ih =>
    have hk := ih fun n hn => h n (by omega)
    simp only [runIdx, mask, hk, runMin_congr a k fun n hn => h n (by omega), h k (by omega)]

/-- The candidates in chunks of 64, from the first scratch alone. -/
def cand (x1 : Vec F S1x3x4096 .f32) (n : ℕ) : Vec F S8x64 .bf16 := slab (scr0 x1) (64 * n)

/-- The distances a point writes depend on its two input blocks alone. -/
theorem outD_chunk (a : FVec F S8x1024 .bf16) (x1 : Vec F S1x3x4096 .f32) (xs1 : Vec F S8x4096 .bf16) (h : Shifted x1 xs1) :
    outD a (chunk (scr0 x1) xs1) = outD a (cand x1) := by
  have e : ∀ n < 64, chunk (scr0 x1) xs1 n = cand x1 n := fun n hn => chunk_eq x1 xs1 h n hn
  unfold outD
  rw [runMin_congr a 63 fun n hn => e n (by omega), e 63 (by omega)]

/-- The positions a point writes depend on its two input blocks alone. -/
theorem outI_chunk (a : FVec F S8x1024 .bf16) (x1 : Vec F S1x3x4096 .f32) (xs1 : Vec F S8x4096 .bf16) (h : Shifted x1 xs1) :
    outI a (chunk (scr0 x1) xs1) = outI a (cand x1) := by
  have e : ∀ n < 64, chunk (scr0 x1) xs1 n = cand x1 n := fun n hn => chunk_eq x1 xs1 h n hn
  unfold outI mask
  rw [runIdx_congr a 62 fun n hn => e n (by omega), runMin_congr a 63 fun n hn => e n (by omega), runMin_congr a 62 fun n hn => e n (by omega),
    e 63 (by omega), e 62 (by omega)]

end Cert.KernelIdeal.Hand

end
-- ==== Proof.Part2.lean ====
module

public import proofs.«01_k».proof.Proof.Body
public import proofs.«01_k».proof.Proof.Fill

/-!
The first part of the body: at the first tile of a batch it fills the two scratches, at every point it reads the first three chunks.
-/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ (UR sig nD τ) ℕ

/-- A covered load of whole rows, read at a row. -/
theorem readCov_rows {κ : Kind} (v : View sig κ .vmem S8x4096 .bf16) (L : List (View.Piece (Elt F) S8x4096 .bf16)) (o n : ℕ)
    (inb : ∀ a, (![o, 0] : Fin 2 → ℕ) a + (![n, 4096] : Fin 2 → ℕ) a ≤ (![8, 4096] : Fin 2 → ℕ) a) (k : Fin n) (r : Fin 8) (l : Fin 4096)
    (h : r.val = o + k.val) :
    v.readCov L (Rect.unit (s := S8x4096) ![o, 0] ![n, 4096] inb).toLoadRect (ix2 (n0 := n) (n1 := 4096) k l)
      = v.read (Elt F) (v.writes (Elt F) v.junk L) (ix2 (n0 := 8) (n1 := 4096) r l) :=
  congrArg (v.read (Elt F) (v.writes (Elt F) v.junk L)) (funext fun
    | ⟨0, _⟩ => Fin.ext (by show o + 1 * k.val = r.val; omega)
    | ⟨1, _⟩ => Fin.ext (by show 0 + 1 * l.val = l.val; omega))

/-- The first lanes of the filled second scratch do not depend on what was there before. -/
theorem ld_scr1 (x1 : Vec F S1x3x4096 .f32) (d d' : Vec F S8x4096 .bf16)
    (inb : ∀ a, (![0, 0] : Fin 2 → ℕ) a + (![8, 64] : Fin 2 → ℕ) a ≤ (![8, 4096] : Fin 2 → ℕ) a) :
    View.ld (scr1 x1 d) (Rect.unit (s := S8x4096) ![0, 0] ![8, 64] inb) = slab (scr1 x1 d') 0 :=
  (ld_slab _ 0 inb).trans ((chunk_eq x1 _ (shifted_scr1 x1 d) 1 (by decide)).trans (chunk_eq x1 _ (shifted_scr1 x1 d') 1 (by decide)).symm)

section
variable (c : Dev nD) (i : grid0.Coords) (arg2 : Memref sig .tc .vmem S1x3x1024 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S8x4096 .bf16) (harg6 : arg6.IsWhole) (arg7 : Memref sig .tc .vmem S8x4096 .bf16) (harg7 : arg7.IsWhole)
  (x0 : Vec F S1x3x1024 .f32) (x1 : Vec F S1x3x4096 .f32) (xs0 xs1 : Vec F S8x4096 .bf16)

omit i arg2 harg2 arg3 harg3 arg4 harg4 arg5 harg5 arg6 harg6 arg7 harg7 x1 c in
/-- The first part's own terms are the first three chunks' state. -/
theorem handed_eq : (⟨k0_pay22 x0, k0_pay30 x0 (slab xs0 0) (slab xs1 0), k0_pay32 x0 (slab xs0 0) (slab xs1 0) (slab xs0 128),
    k0_pay33 x0 (slab xs0 0) (slab xs1 0) (slab xs0 128)⟩ : Σ' (_ : FVec F S8x1024 .bf16) (_ : IVec S64x1024 32) (_ : IVec S64x1024 1), FVec F S64x1024 .f32)
      = handed x0 xs0 xs1 := rfl

set_option maxHeartbeats 1000000 in
/-- Away from the first tile of a batch the first part leaves both scratches as they were. -/
theorem part2_later (hc : ¬ first i) (E : Set ℕ) (Q : _ → sProp 𝕄) :
    iprop(held c arg2 arg3 arg6 arg7 x0 x1 xs0 xs1 ∗ (held c arg2 arg3 arg6 arg7 x0 x1 xs0 xs1 -∗ Q (handed x0 xs0 xs1)))
      ⊢ wp frame (wpE (defs₀ (F := F)) Variants.none c none) E (k0_part2 i arg2 harg2 arg3 harg3 arg4 harg4 arg5 harg5 arg6 harg6 arg7 harg7) Q := by
  rw [k0_part2_eq_skeleton]; unfold k0_part2_skel held owns
  iintro ⟨⟨⟨%f0, %hf0, H0⟩, ⟨%f1, %hf1, H1⟩, ⟨%fs0, %hfs0, HS0⟩, ⟨%fs1, %hfs1, HS1⟩⟩, Hk⟩
  obtain rfl := harg2.eq_unread hf0; obtain rfl := harg3.eq_unread hf1; obtain rfl := harg6.eq_unread hfs0; obtain rfl := harg7.eq_unread hfs1
  sl_exec (disch := first | sl_exact hc)
  sl_step
  rw [View.readAt_full, harg2.read_unread]
  simp only [readAt_slab]
  rw [handed_eq]
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr; · ipureintro; exact harg6.read_unread _
    iexact HS0
  · iexists _; isplitr; · ipureintro; exact harg7.read_unread _
    iexact HS1

set_option maxHeartbeats 1000000 in
/-- At the first tile of a batch the first part fills both scratches from the batch's candidates. -/
theorem part2_first (hc : first i) (E : Set ℕ) (Q : _ → sProp 𝕄) :
    iprop(held c arg2 arg3 arg6 arg7 x0 x1 xs0 xs1 ∗ (held c arg2 arg3 arg6 arg7 x0 x1 (scr0 x1) (scr1 x1 xs1) -∗ Q (handed x0 (scr0 x1) (scr1 x1 xs1))))
      ⊢ wp frame (wpE (defs₀ (F := F)) Variants.none c none) E (k0_part2 i arg2 harg2 arg3 harg3 arg4 harg4 arg5 harg5 arg6 harg6 arg7 harg7) Q := by
  rw [k0_part2_eq_skeleton]; unfold k0_part2_skel
  simp only [k0_part1_eq_skeleton]
  unfold held owns
  iintro ⟨⟨⟨%f0, %hf0, H0⟩, ⟨%f1, %hf1, H1⟩, ⟨%fs0, %hfs0, HS0⟩, ⟨%fs1, %hfs1, HS1⟩⟩, Hk⟩
  obtain rfl := harg2.eq_unread hf0; obtain rfl := harg3.eq_unread hf1; obtain rfl := harg6.eq_unread hfs0; obtain rfl := harg7.eq_unread hfs1
  sl_exec (disch := first | sl_exact hc)
  have r3 : View.readAt (Elt F) arg3.view (Rect.unit (s := S1x3x4096) ![0, 0, 0] S1x3x4096.size inb_S1x3x4096_S1x3x4096_0_0_0).toLoadRect (harg3.unread x1) = x1 := by
    rw [View.readAt_full, harg3.read_unread]
  have h0 : ∀ f, arg6.view.read (Elt F) (arg6.view.writes (Elt F) f (part2_first.sl.HS0_5 c arg3 harg3 arg6 harg6 x1 xs0)) = scr0 x1 := fun f => by
    delta part2_first.sl.HS0_5 part2_first.sl.HS0_3 part2_first.sl.HS0_1
    simp only [r3]
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl]
    refine fill0 x1 _ _ _ _ _ (fun l => ?_) fun l => ?_
    · delta part2_first.sl.old part2_first.sl.HS0_1
      simp only [r3]
      refine (readCov_rows _ _ 2 2 inb_S8x4096_S2x4096_2_0 0 2 l rfl).trans ?_
      rw [View.read_writes_cons_put _ _ _ _ _ rfl, rows_in _ 0 4 _ 2 2 l rfl, updRows_in 4 3 0 _ _ _ 2 2 l rfl]
    · delta part2_first.sl.old_2 part2_first.sl.HS0_3
      simp only [r3]
      refine (readCov_rows _ _ 4 2 inb_S8x4096_S2x4096_4_0 0 4 l rfl).trans ?_
      rw [View.read_writes_cons_put _ _ _ _ _ rfl, rows_in _ 4 2 _ 4 0 l rfl, updRows_in 2 1 0 _ _ _ 0 0 l rfl]
  have h1 : ∀ f, arg7.view.read (Elt F) (arg7.view.writes (Elt F) f (part2_first.sl.HS1_2 c arg3 harg3 x1)) = scr1 x1 (arg7.view.read (Elt F) f) := fun f => by
    delta part2_first.sl.HS1_2 part2_first.sl.r
    simp only [r3]
    rw [View.read_writes_cons_put _ _ _ _ _ rfl, View.read_writes_cons_put _ _ _ _ _ rfl, View.writes_nil]
    rfl
  have e22 : part2_first.sl.v22 c arg3 harg3 arg6 harg6 x1 xs0 = slab (scr0 x1) 0 := by
    delta part2_first.sl.v22
    exact (congrArg (fun d => View.ld d (Rect.unit (s := S8x4096) ![0, 0] ![8, 64] inb_S8x4096_S8x64_0_0)) (h0 arg6.view.junk)).trans (ld_slab (scr0 x1) 0 inb_S8x4096_S8x64_0_0)
  have e34 : part2_first.sl.v34 c arg3 harg3 arg6 harg6 x1 xs0 = slab (scr0 x1) 128 := by
    delta part2_first.sl.v34
    exact (congrArg (fun d => View.ld d (Rect.unit (s := S8x4096) ![0, 128] ![8, 64] inb_S8x4096_S8x64_0_128)) (h0 arg6.view.junk)).trans (ld_slab (scr0 x1) 128 inb_S8x4096_S8x64_0_128)
  have e28 : part2_first.sl.v28 c arg3 harg3 arg7 x1 = slab (scr1 x1 xs1) 0 := by
    delta part2_first.sl.v28
    exact (congrArg (fun d => View.ld d (Rect.unit (s := S8x4096) ![0, 0] ![8, 64] inb_S8x4096_S8x64_0_0)) (h1 arg7.view.junk)).trans (ld_scr1 x1 _ xs1 inb_S8x4096_S8x64_0_0)
  rw [e22, e28, e34]
  sl_step
  rw [View.readAt_full, harg2.read_unread]
  rw [handed_eq]
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr; · ipureintro; exact h0 (harg6.unread xs0)
    iexact HS0
  · iexists _; isplitr; · ipureintro; exact (h1 (harg7.unread xs1)).trans (congrArg (scr1 x1) (harg7.read_unread _))
    iexact HS1
end

end Cert.KernelIdeal.Hand

end
-- ==== Proof.Run.lean ====
module

public import proofs.«01_k».proof.Proof.Part2
public import Idealize.ShloMosaic.Lib.Claim

/-!
The launch: what the two scratches hold between grid points, the body at every point, the run and the frame.
-/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The scratches are filled at the first of every four points. -/
theorem first_iff : ∀ t : Fin cfg0.N, first (grid0.coords t) ↔ t.val % 4 = 0 :=
  (fun t => by
    have ht : t.val < 32 := Nat.lt_of_lt_of_eq t.isLt N_0
    have e1 : (grid0.coords t 1).val = t.val / 1 % 4 := Pipeline.Grid.coords_val t 1 (by decide) rfl
    simp only [first, e1]
    word_cmp
   : ∀ t : Fin grid0.N, first (grid0.coords t) ↔ t.val % 4 = 0)

/-- The blocks' places: point `t` works on batch `t / 4` and tile `t % 4`, and writes row `t` of each result. -/
theorem places : ∀ t : Fin cfg0.N,
    (win0_0.index t (0 : Fin 3) = t.val / 4 ∧ win0_0.index t (1 : Fin 3) = 0 ∧ win0_0.index t (2 : Fin 3) = t.val % 4)
    ∧ (win0_1.index t (0 : Fin 3) = t.val / 4 ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The block of queries at a point, entry by entry. -/
theorem block0_apply (c : Dev nD) (t : Fin cfg0.N) (y : S1x3x1024.Idx) (z : S8x3x4096.Idx)
    (h0 : (z 0).val = t.val / 4) (h1 : (z 1).val = (y 1).val) (h2 : (z 2).val = t.val % 4 * 1024 + (y 2).val) :
    iblk m c 0 t y = V m c main_call0_v0 z := by
  show V m c main_call0_v0 (((cfg0.win 0).blk t).view.emb y) = _
  congr 1
  obtain ⟨⟨e0, e1, e2⟩, -⟩ := places t
  have hy : (y 0).val < 1 := (y 0).isLt
  funext a; apply Fin.ext
  match a with
  | ⟨0, _⟩ => show win0_0.index t (0 : Fin 3) * 1 + 1 * (y 0).val = (z 0).val; omega
  | ⟨1, _⟩ => show win0_0.index t (1 : Fin 3) * 3 + 1 * (y 1).val = (z 1).val; omega
  | ⟨2, _⟩ => show win0_0.index t (2 : Fin 3) * 1024 + 1 * (y 2).val = (z 2).val; omega

/-- The block of candidates at a point, entry by entry. -/
theorem block1_apply (c : Dev nD) (t : Fin cfg0.N) (y : S1x3x4096.Idx) (z : S8x3x4096.Idx)
    (h0 : (z 0).val = t.val / 4) (h1 : (z 1).val = (y 1).val) (h2 : (z 2).val = (y 2).val) :
    iblk m c 1 t y = V m c main_call0_v1 z := by
  show V m c main_call0_v1 (((cfg0.win 1).blk t).view.emb y) = _
  congr 1
  obtain ⟨-, ⟨e0, e1, e2⟩, -⟩ := places t
  have hy : (y 0).val < 1 := (y 0).isLt
  funext a; apply Fin.ext
  match a with
  | ⟨0, _⟩ => show win0_1.index t (0 : Fin 3) * 1 + 1 * (y 0).val = (z 0).val; omega
  | ⟨1, _⟩ => show win0_1.index t (1 : Fin 3) * 3 + 1 * (y 1).val = (z 1).val; omega
  | ⟨2, _⟩ => show win0_1.index t (2 : Fin 3) * 4096 + 1 * (y 2).val = (z 2).val; omega

/-- The points of one batch see the same block of candidates. -/
theorem block1_batch (c : Dev nD) (s t : Fin cfg0.N) (h : s.val / 4 = t.val / 4) : iblk m c 1 s = iblk m c 1 t := by
  funext y
  have ht : t.val < 32 := Nat.lt_of_lt_of_eq t.isLt N_0
  have ha := block1_apply m c t y (ix3 (n0 := 8) (n1 := 3) (n2 := 4096) ⟨t.val / 4, by omega⟩ (y 1) (y 2)) rfl rfl rfl
  have hb := block1_apply m c s y (ix3 (n0 := 8) (n1 := 3) (n2 := 4096) ⟨t.val / 4, by omega⟩ (y 1) (y 2)) h.symm rfl rfl
  exact hb.trans ha.symm

/-! ## The proof data -/

/-- The staging buffers and the scratches as the body takes them. -/
abbrev stg0 (t : Fin cfg0.N) : Memref sig .tc .vmem S1x3x1024 .f32 := win0_0.stage (cfg0.slots t 0)
abbrev stg1 (t : Fin cfg0.N) : Memref sig .tc .vmem S1x3x4096 .f32 := win0_1.stage (cfg0.slots t 1)
abbrev stg2 (t : Fin cfg0.N) : Memref sig .tc .vmem S1x1x1024 .f32 := win0_2.stage (cfg0.slots t 2)
abbrev stg3 (t : Fin cfg0.N) : Memref sig .tc .vmem S1x1x1024 .i32 := win0_3.stage (cfg0.slots t 3)
abbrev scrA : Memref sig .tc .vmem S8x4096 .bf16 := Memref.whole cc0_scratch0
abbrev scrB : Memref sig .tc .vmem S8x4096 .bf16 := Memref.whole cc0_scratch1

/-- The class invariant, with the two scratches at anything. -/
theorem loose_eq (c : Dev nD) :
    (Pipeline.ΦA spec0 c : sProp 𝕄)
      = iprop(iprop((∃ d, owns (c : Thread nD τ) scrA fullShare d) ∗ (∃ d, owns (c : Thread nD τ) scrB fullShare d)) ∗ (∃ r, prngReg c r)) := by
  unfold Pipeline.ΦA; rw [scopedRest0_eq]; simp only [scrA, scrB, owns_whole]; try rfl

/-- The two scratches filled from the candidates `x1`, the generator register at some state. -/
def Filled (c : Dev nD) (x1 : Vec F S1x3x4096 .f32) : sProp 𝕄 :=
  iprop((∃ xs1, ⌜Shifted x1 xs1⌝ ∗ owns (c : Thread nD τ) scrA fullShare (scr0 x1) ∗ owns (c : Thread nD τ) scrB fullShare xs1) ∗ (∃ r, prngReg c r))

/-- Between points: anything before the first point of a batch, afterwards the scratches filled from its candidates. -/
def Between (c : Dev nD) (n : ℕ) (h : n ≤ cfg0.N) : sProp 𝕄 :=
  if h0 : n % 4 = 0 then Pipeline.ΦA spec0 c
  else Filled c (iblk m c 1 ⟨n - 1, by
    have : n ≠ 0 := fun e => h0 (by rw [e])
    omega⟩)

/-- Filled scratches are scratches at something. -/
theorem filled_loose (c : Dev nD) (x1 : Vec F S1x3x4096 .f32) : (Filled c x1 : sProp 𝕄) ⊢ Pipeline.ΦA spec0 c := by
  rw [loose_eq]; unfold Filled
  iintro ⟨⟨%xs1, -, HA, HB⟩, Hg⟩
  isplitl [HA HB]
  · isplitl [HA]
    · iexists _; iexact HA
    · iexists _; iexact HB
  · iexact Hg

/-- After a point the filled scratches are what the next point may assume. -/
theorem filled_between (c : Dev nD) (t : Fin cfg0.N) : (Filled c (iblk m c 1 t) : sProp 𝕄) ⊢ Between m c (t.val + 1) t.isLt := by
  unfold Between
  by_cases h : (t.val + 1) % 4 = 0
  · rw [dif_pos h]; exact filled_loose c _
  · rw [dif_neg h]; exact .rfl

/-- What the two results' blocks hold after a point. -/
def best (c : Dev nD) (t : Fin cfg0.N) : Vec F S1x1x1024 .f32 := outD (k0_pay22 (iblk m c 0 t)) (cand (iblk m c 1 t))
def bestAt (c : Dev nD) (t : Fin cfg0.N) : Vec F S1x1x1024 .i32 := outI (k0_pay22 (iblk m c 0 t)) (cand (iblk m c 1 t))

/-- The proof data: the inputs' blocks stay, the results' blocks hold `best` and `bestAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => best m c t
    | ⟨3, _⟩ => bestAt m c t
  Φ t := Between m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = best m c t := by dsimp only [dats]
theorem after_3 (c : Dev nD) (t : Fin cfg0.N) : (dats m 0 c).after 3 t = bestAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem inv_start (c : Dev nD) (t : Fin cfg0.N) : (dats m 0 c).Φ t.castSucc = Between m c t.val (Nat.le_of_lt t.isLt) := by
  dsimp only [dats]; exact Pipeline.Dat.Φ_castSucc (Between m c) t

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t))

/-- The body at any point leaves the results' blocks at `best` and `bestAt` and the scratches filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl, after_0, after_1, after_2, after_3]
  rw [show (dats m 0 c).Φ t.succ = Between m c (t.val + 1) t.isLt from rfl, inv_start m c t]
  by_cases h0 : t.val % 4 = 0
  · rw [show Between m c t.val (Nat.le_of_lt t.isLt) = Pipeline.ΦA spec0 c from dif_pos h0, loose_eq]
    iintro ⟨⟨⟨⟨%xs0, HS0⟩, ⟨%xs1, HS1⟩⟩, Hg⟩, Ho, ⟨%d0, H0⟩, ⟨%d1, H1⟩, ⟨%d2, H2⟩, ⟨%d3, H3⟩⟩
    iapply (body_of_part2 c (grid0.coords t) (stg0 t) _ (stg1 t) _ (stg2 t) _ (stg3 t) _ scrA _ scrB _ (iblk m c 0 t) (iblk m c 1 t)
      (scr0 (iblk m c 1 t)) (scr1 (iblk m c 1 t) xs1) _ Set.univ
      (fun Q => part2_first c (grid0.coords t) (stg0 t) _ (stg1 t) _ (stg2 t) _ (stg3 t) _ scrA _ scrB _ (iblk m c 0 t) (iblk m c 1 t) xs0 xs1
        ((first_iff t).mpr h0) Set.univ Q) _)
    isplitl [H0 H1 HS0 HS1]
    · unfold held
      isplitl [H0]; · iexact H0
      isplitl [H1]; · iexact H1
      isplitl [HS0]; · iexact HS0
      iexact HS1
    isplitl [H2]; · iexists _; iexact H2
    isplitl [H3]; · iexists _; iexact H3
    rw [outD_chunk _ _ _ (shifted_scr1 _ _), outI_chunk _ _ _ (shifted_scr1 _ _)]
    unfold held
    iintro ⟨⟨H0, H1, HS0, HS1⟩, H2, H3⟩
    isplitl [HS0 HS1 Hg]
    · iapply (filled_between m c t)
      unfold Filled
      isplitl [HS0 HS1]
      · iexists _; isplitr
        · ipureintro; exact shifted_scr1 _ xs1
        isplitl [HS0]; · iexact HS0
        iexact HS1
      iexact Hg
    isplitl [Ho]; · iexact Ho
    isplitl [H0]; · iexact H0
    isplitl [H1]; · iexact H1
    isplitl [H2]; · iexact H2
    iexact H3
  · rw [show Between m c t.val (Nat.le_of_lt t.isLt) = Filled c (iblk m c 1 t) from
      (dif_neg h0).trans (congrArg (Filled c) (block1_batch m c _ t (by show (t.val - 1) / 4 = t.val / 4; omega)))]
    unfold Filled
    iintro ⟨⟨⟨%xs1, %hs, HS0, HS1⟩, Hg⟩, Ho, ⟨%d0, H0⟩, ⟨%d1, H1⟩, ⟨%d2, H2⟩, ⟨%d3, H3⟩⟩
    iapply (body_of_part2 c (grid0.coords t) (stg0 t) _ (stg1 t) _ (stg2 t) _ (stg3 t) _ scrA _ scrB _ (iblk m c 0 t) (iblk m c 1 t)
      (scr0 (iblk m c 1 t)) xs1 _ Set.univ
      (fun Q => part2_later c (grid0.coords t) (stg0 t) _ (stg1 t) _ (stg2 t) _ (stg3 t) _ scrA _ scrB _ (iblk m c 0 t) (iblk m c 1 t)
        (scr0 (iblk m c 1 t)) xs1 (fun h => h0 ((first_iff t).mp h)) Set.univ Q) _)
    isplitl [H0 H1 HS0 HS1]
    · unfold held
      isplitl [H0]; · iexact H0
      isplitl [H1]; · iexact H1
      isplitl [HS0]; · iexact HS0
      iexact HS1
    isplitl [H2]; · iexists _; iexact H2
    isplitl [H3]; · iexists _; iexact H3
    rw [outD_chunk _ _ _ hs, outI_chunk _ _ _ hs]
    unfold held
    iintro ⟨⟨H0, H1, HS0, HS1⟩, H2, H3⟩
    isplitl [HS0 HS1 Hg]
    · iapply (filled_between m c t)
      unfold Filled
      isplitl [HS0 HS1]
      · iexists _; isplitr
        · ipureintro; exact hs
        isplitl [HS0]; · iexact HS0
        iexact HS1
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Between m c 0 (Nat.zero_le _) from rfl,
    show Between m c 0 (Nat.zero_le _) = Pipeline.ΦA spec0 c from dif_pos (Nat.zero_mod 4)]

theorem hout (c : Dev nD) : (dats m 0 c).Φ (Fin.last cfg0.N) ⊢ Pipeline.ΦA spec0 c := by
  rw [show (dats m 0 c).Φ (Fin.last cfg0.N) = Between m c (Fin.last cfg0.N).val (Nat.le_of_lt_succ (Fin.last cfg0.N).isLt) from rfl]
  rw [show Between m c (Fin.last cfg0.N).val (Nat.le_of_lt_succ (Fin.last cfg0.N).isLt) = Pipeline.ΦA spec0 c from
    dif_pos (by rw [Fin.val_last]; have : cfg0.N = 32 := N_0; omega)]

/-! ## The run and the frame -/

set_option backward.isDefEq.respectTransparency.types false in
set_option maxHeartbeats 800000 in
/-- Every fair run from zero counters ends, with the arrays at what the proof data says and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- THE FRAME: every fair run ends, both arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelFrame.lean ====
module

public import proofs.«01_k».proof.Proof.Run
public import proofs.«01_k».proof.Proof.Gen.Kernel.Launch
public import Idealize.ShloMosaic.PureOps.BitExact

/-!
The compiled program has the same text as the one read at extended reals, so the run proved there at any reading of floats is its run too.
-/

@[expose] public section

set_option maxRecDepth 16384

noncomputable section

namespace Cert.Kernel.Hand

open Idealize.ShloMosaic Idealize.ShloMosaic.TcCoe
open Idealize.SL Idealize.SL.Sem
open Cert.Kernel Cert.Kernel.Gen

variable (m : (ℓ : Loc nD τ sig) → Buf (Elt Bits) ℓ) (ρ : Dev nD → PrngReg)

/-- The body is the same function. -/
theorem body_same : @cc0__chamfer_body Bits _ _ = @Cert.KernelIdeal.cc0__chamfer_body Bits _ _ := rfl

/-- So the table of bodies is the same, row by row. -/
theorem table_same : @defs₀ Bits _ _ = @Cert.KernelIdeal.defs₀ Bits _ _ := by
  unfold defs₀ Cert.KernelIdeal.defs₀
  congr 1
  funext l a
  match l, a with
  | 0, (t, s) => exact rfl
  | ⟨_ + 1, h⟩, _ => exact absurd h (Nat.not_lt.2 (Nat.le_add_left _ _))

/-- And the table with the pipeline's loops. -/
theorem defs_same : @defs Bits _ _ = @Cert.KernelIdeal.defs Bits _ _ := congrArg (Pipeline.defs pcfgs) table_same

/-- The frame at the machine's floats. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same]
  exact Cert.KernelIdeal.Hand.frame (F := Bits) m ρ

end Cert.Kernel.Hand

end
-- ==== Proof.Reference.lean ====
module

public import proofs.«01_k».proof.Proof.Gen.ReferenceIdeal
public import Idealize.ShloMosaic.Lib.StableHlo.Run
public import Idealize.ShloMosaic.Lib.Claim

/-!
The reference's run: its operations in order, and the two results as functions of the arguments.
-/

@[expose] public section

noncomputable section

namespace Cert.ReferenceIdeal.Hand

open Idealize.ShloMosaic Idealize.ShloMosaic.TcCoe Idealize.ShloMosaic.StableHlo
open Idealize.SL Idealize.SL.Sem
open Cert.ReferenceIdeal Cert.ReferenceIdeal.Gen

variable {F : FTy → Type} [FloatOps F]

/-- Sum of the squares of each point's coordinates. -/
def norms (x : FVec F S8x4096x3 .f32) : FVec F S8x4096 .f32 :=
  Host.reduceAdd (mulf x x) (constant S_ .f32 0x00000000#32) reducesTo_S8x4096x3_S8x4096_d2 h_S_

/-- All squared distances: entry (b, n, k) belongs to query `n` and candidate `k` of batch `b`. -/
def gaps (x y : FVec F S8x4096x3 .f32) : FVec F S8x4096x4096 .f32 :=
  subf
    (addf (broadcastInDim S8x4096x4096 ![0, 1, 2] bcast_S8x4096x1_S8x4096x4096_0_1_2 (broadcastInDim S8x4096x1 ![0, 1] bcast_S8x4096_S8x4096x1_0_1 (norms x)))
      (broadcastInDim S8x4096x4096 ![0, 1, 2] bcast_S8x1x4096_S8x4096x4096_0_1_2 (broadcastInDim S8x1x4096 ![0, 2] bcast_S8x4096_S8x1x4096_0_2 (norms y))))
    (mulf (broadcastInDim S8x4096x4096 ![] bcast_S_S8x4096x4096 (constant S_ .f32 0x40000000#32))
      (Host.dotGeneral dot_S8x4096x3_S8x4096x3_S8x4096x4096_2_2_1_1_0_0 none x y))

/-- The least distance of each query. -/
def least (x y : FVec F S8x4096x3 .f32) : FVec F S8x4096 .f32 :=
  Host.reduce FloatOps.minimumf (gaps x y) (constant S_ .f32 0x7F800000#32) reducesTo_S8x4096x4096_S8x4096_d2 h_S_

/-- The numbers a search over numbered values ends with, of any shapes. -/
def numbers {s t u : Shape} {axes : List (Fin s.rank)} {β : Type} (f : F .f32 × β → F .f32 × β → F .f32 × β) (x : FVec F s .f32) (y : s.Idx → β)
    (ix : FVec F u .f32) (iy : u.Idx → β) (h : s.ReducesTo axes t) (hu : 0 < u.numel) : t.Idx → β :=
  fun j => (Host.argReduce f x y ix iy h hu j).2

/-- The number of the nearest candidate of each query. -/
def nearest (x y : FVec F S8x4096x3 .f32) : IVec S8x4096 32 :=
  numbers reducer_argmin_f32_i32 (gaps x y) (iotaInDim S8x4096x4096 32 2) (constant S_ .f32 0x7F800000#32) (constantI S_ 32 0#32)
    reducesTo_S8x4096x4096_S8x4096_d2 h_S_

/-- The operations in order. -/
abbrev ops : List (HloOp τ sig (Elt F)) :=
  [ binary main_arg0 main_arg0 main_v0 mulf,
    nullary main_cst (constant S_ .f32 0x00000000#32),
    binary main_v0 main_cst main_v1 (fun x v => Host.reduceAdd x v reducesTo_S8x4096x3_S8x4096_d2 h_S_),
    binary main_arg1 main_arg1 main_v2 mulf,
    nullary main_cst_0 (constant S_ .f32 0x00000000#32),
    binary main_v2 main_cst_0 main_v3 (fun x v => Host.reduceAdd x v reducesTo_S8x4096x3_S8x4096_d2 h_S_),
    binary main_arg0 main_arg1 main_v4 (fun l r => Host.dotGeneral dot_S8x4096x3_S8x4096x3_S8x4096x4096_2_2_1_1_0_0 none l r),
    unary main_v1 main_v5 (broadcastInDim S8x4096x1 ![0, 1] bcast_S8x4096_S8x4096x1_0_1),
    unary main_v3 main_v6 (broadcastInDim S8x1x4096 ![0, 2] bcast_S8x4096_S8x1x4096_0_2),
    unary main_v5 main_v7 (broadcastInDim S8x4096x4096 ![0, 1, 2] bcast_S8x4096x1_S8x4096x4096_0_1_2),
    unary main_v6 main_v8 (broadcastInDim S8x4096x4096 ![0, 1, 2] bcast_S8x1x4096_S8x4096x4096_0_1_2),
    binary main_v7 main_v8 main_v9 addf,
    nullary main_cst_1 (constant S_ .f32 0x40000000#32),
    unary main_cst_1 main_v10 (broadcastInDim S8x4096x4096 ![] bcast_S_S8x4096x4096),
    binary main_v10 main_v4 main_v11 mulf,
    binary main_v9 main_v11 main_v12 subf,
    nullary main_cst_2 (constant S_ .f32 0x7F800000#32),
    binary main_v12 main_cst_2 main_v13 (fun x v => Host.reduce FloatOps.minimumf x v reducesTo_S8x4096x4096_S8x4096_d2 h_S_),
    nullary main_call0_v0 (iotaInDim S8x4096x4096 32 2),
    nullary main_call0_cst (constant S_ .f32 0x7F800000#32),
    nullary main_call0_c (constantI S_ 32 0#32),
    quaternary main_v12 main_call0_v0 main_call0_cst main_call0_c main_call0_v1_0
      (fun x y u v j => (Host.argReduce reducer_argmin_f32_i32 x y u v reducesTo_S8x4096x4096_S8x4096_d2 h_S_ j).1),
    quaternary main_v12 main_call0_v0 main_call0_cst main_call0_c main_v14
      (fun x y u v j => (Host.argReduce reducer_argmin_f32_i32 x y u v reducesTo_S8x4096x4096_S8x4096_d2 h_S_ j).2) ]

theorem main_eq (c : Dev nD) : main (F := F) c = seq ops := by
  simp only [main, fn_argmin.body, seq, bind_assoc, pure_bind]
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

/-- The first result is `least` of the arguments. -/
theorem least_eq (V : Valuation τ sig (Elt F)) :
    after ops V (main_v13 : DevRef τ sig) = least (V (main_arg0 : DevRef τ sig)) (V (main_arg1 : DevRef τ sig)) := by
  after_results_simp
  rfl

/-- The second result is `nearest` of the arguments. -/
theorem nearest_eq (V : Valuation τ sig (Elt F)) :
    after ops V (main_v14 : DevRef τ sig) = nearest (V (main_arg0 : DevRef τ sig)) (V (main_arg1 : DevRef τ sig)) := by
  after_results_simp
  rfl

theorem ops_sub : (ops : List (HloOp τ sig (Elt F))).Forall fun op => op.bufs ⊆ tcRefs τ sig :=
  ⟨binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., binary_bufs_sub ..,
    nullary_bufs_sub .., unary_bufs_sub .., binary_bufs_sub .., binary_bufs_sub .., nullary_bufs_sub .., binary_bufs_sub ..,
    nullary_bufs_sub .., nullary_bufs_sub .., nullary_bufs_sub .., quaternary_bufs_sub .., quaternary_bufs_sub ..⟩

/-- Every fair run ends with every buffer at what the operations make of the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq (by decide) (by decide) defs main (fun _ => ops) main_eq (fun _ => ops_sub) m ρ

/-- Every fair run ends with the results at `least` and `nearest` and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = least (m ((c.tc : Thread nD τ).loc main_arg0)) (m ((c.tc : Thread nD τ).loc main_arg1))
      ∧ r.2.mem ((c.tc : Thread nD τ).loc main_v14) = nearest (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v13).trans (least_eq _), (h c main_v14).trans (nearest_eq _),
    (h c main_arg0).trans (arg0_eq _), (h c main_arg1).trans (arg1_eq _)⟩) (run_main m ρ)

/-- The frame: it also has no semaphore. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, Idealize.ShloMosaic.sem_eq_zero_of_no_sems (by decide) r.2⟩) (run m ρ)

end Cert.ReferenceIdeal.Hand

end
-- ==== Proof.Best.lean ====
module

public import Mathlib.Data.EReal.Basic

/-!
The first of the least of finitely many extended reals: what it is, that there is one, and two ways of finding it — by
folding over all of them, and by searching chunk after chunk in every row and then comparing the rows.
-/

@[expose] public section

noncomputable section

namespace Cert.Best

/-- `v` is the least of `d 0`, …, `d (N - 1)`, and `i` is the first place it stands at. -/
structure IsBest (N : ℕ) (d : ℕ → EReal) (v : EReal) (i : ℕ) : Prop where
  lt : i < N
  val : v = d i
  le : ∀ k < N, d i ≤ d k
  first : ∀ k < i, d i < d k

/-- There is one such value and one such place. -/
theorem IsBest.unique {N : ℕ} {d : ℕ → EReal} {v v' : EReal} {i i' : ℕ} (h : IsBest N d v i) (h' : IsBest N d v' i') : v = v' ∧ i = i' := by
  have e : i = i' := by
    rcases lt_trichotomy i i' with c | c | c
    · exact absurd (h'.first i c) (not_lt.2 (h.le i' h'.lt))
    · exact c
    · exact absurd (h.first i' c) (not_lt.2 (h'.le i h.lt))
  exact ⟨by rw [h.val, h'.val, e], e⟩

/-- The values searched may be named otherwise. -/
theorem IsBest.congr {N : ℕ} {d d' : ℕ → EReal} {v : EReal} {i : ℕ} (h : IsBest N d v i) (e : ∀ k < N, d k = d' k) : IsBest N d' v i :=
  ⟨h.lt, h.val.trans (e i h.lt), fun k hk => e i h.lt ▸ e k hk ▸ h.le k hk,
    fun k hk => e i h.lt ▸ e k (hk.trans h.lt) ▸ h.first k hk⟩

/-- Folding an operation that keeps one of its two operands, the one below the other: the result is one of the elements and
    below them all. -/
theorem foldl_pick {α : Type} (f : α → α → α) (le : α → α → Prop) (refl : ∀ a, le a a) (trans : ∀ a b c, le a b → le b c → le a c)
    (one : ∀ a b, f a b = a ∨ f a b = b) (left : ∀ a b, le (f a b) a) (right : ∀ a b, le (f a b) b) :
    ∀ (l : List α) (a : α), l.foldl f a ∈ a :: l ∧ ∀ x ∈ a :: l, le (l.foldl f a) x
  | [], a => ⟨List.mem_cons_self, fun x hx => by rw [List.mem_singleton.1 hx]; exact refl a⟩
  | b :: l, a => by
    obtain ⟨hm, hle⟩ := foldl_pick f le refl trans one left right l (f a b)
    have hf := hle (f a b) List.mem_cons_self
    refine ⟨?_, fun x hx => ?_⟩
    · rcases List.mem_cons.1 hm with e | e
      · rw [List.foldl_cons, e]
        rcases one a b with c | c <;> rw [c] <;> simp
      · exact List.mem_cons_of_mem _ (List.mem_cons_of_mem _ e)
    · rcases List.mem_cons.1 hx with rfl | hx
      · exact trans _ _ _ hf (left _ _)
      rcases List.mem_cons.1 hx with rfl | hx
      · exact trans _ _ _ hf (right _ _)
      · exact hle x (List.mem_cons_of_mem _ hx)

/-- The least of the first `n` values, kept by strict comparison from the top element on. -/
def low (d : ℕ → EReal) : ℕ → EReal
  | 0 => ⊤
  | n + 1 => if d n < low d n then d n else low d n

/-- The number of the value last kept. -/
def lowAt (d : ℕ → EReal) : ℕ → ℕ
  | 0 => 0
  | n + 1 => if d n < low d n then n else lowAt d n

/-- Of values below the top element the search keeps the first of the least. -/
theorem low_best (d : ℕ → EReal) : ∀ n, (∀ k < n + 1, d k < ⊤) → IsBest (n + 1) d (low d (n + 1)) (lowAt d (n + 1))
  | 0, hd => by
    have h0 := hd 0 (by omega)
    have hv : low d (0 + 1) = d 0 := if_pos h0
    have hi : lowAt d (0 + 1) = 0 := if_pos h0
    rw [hv, hi]
    exact ⟨by omega, rfl, fun k hk => by rw [show k = 0 by omega], fun k hk => absurd hk (Nat.not_lt_zero k)⟩
  | n + 1, hd => by
    have ih := low_best d n fun k hk => hd k (by omega)
    by_cases c : d (n + 1) < low d (n + 1)
    · have hv : low d (n + 1 + 1) = d (n + 1) := if_pos c
      have hi : lowAt d (n + 1 + 1) = n + 1 := if_pos c
      have below : ∀ k < n + 1, d (n + 1) < d k := fun k hk => lt_of_lt_of_le c (ih.val ▸ ih.le k hk)
      rw [hv, hi]
      refine ⟨by omega, rfl, fun k hk => ?_, below⟩
      rcases Nat.lt_succ_iff_lt_or_eq.1 hk with h | h
      · exact (below k h).le
      · rw [h]
    · have hv : low d (n + 1 + 1) = low d (n + 1) := if_neg c
      have hi : lowAt d (n + 1 + 1) = lowAt d (n + 1) := if_neg c
      rw [hv, hi]
      refine ⟨by have := ih.lt; omega, ih.val, fun k hk => ?_, ih.first⟩
      rcases Nat.lt_succ_iff_lt_or_eq.1 hk with h | h
      · exact ih.le k h
      · rw [h, ← ih.val]; exact not_lt.1 c

/-- Row `r` of `R` rows searched chunk after chunk: the values standing at `R n + r`. -/
def row (R : ℕ) (d : ℕ → EReal) (r : ℕ) : ℕ → EReal := fun n => d (R * n + r)

/-- The least of the rows' least values, and the least of the places it stands at in the rows having it — a number no place has
    stands for the other rows —, are the first of the least of all. -/
theorem rows_best (R C : ℕ) (d : ℕ → EReal) (hd : ∀ k < R * (C + 1), d k < ⊤) (v : EReal) (i : ℕ)
    (vle : ∀ r < R, v ≤ low (row R d r) (C + 1)) (vone : ∃ r < R, v = low (row R d r) (C + 1))
    (place : ℕ → ℕ) (hplace : ∀ r < R, place r = if low (row R d r) (C + 1) = v then lowAt (row R d r) (C + 1) * R + r else R * (C + 1))
    (ile : ∀ r < R, i ≤ place r) (ione : ∃ r < R, i = place r) : IsBest (R * (C + 1)) d v i := by
  have spot : ∀ n r, n < C + 1 → r < R → n * R + r < R * (C + 1) := fun n r hn hr => by
    have h1 : (n + 1) * R ≤ (C + 1) * R := Nat.mul_le_mul_right R hn
    have h2 : (n + 1) * R = n * R + R := Nat.succ_mul n R
    rw [Nat.mul_comm R (C + 1)]; omega
  have best : ∀ r < R, IsBest (C + 1) (row R d r) (low (row R d r) (C + 1)) (lowAt (row R d r) (C + 1)) := fun r hr =>
    low_best _ C fun k hk => hd _ (by have := spot k r hk hr; rw [Nat.mul_comm R k]; exact this)
  have hi : i < R * (C + 1) := by
    obtain ⟨r, hr, e⟩ := vone
    have h1 := ile r hr
    rw [hplace r hr, if_pos e.symm] at h1
    exact h1.trans_lt (spot _ r (best r hr).lt hr)
  have hv : v = d i := by
    obtain ⟨r, hr, e⟩ := ione
    have hp := hplace r hr
    by_cases c : low (row R d r) (C + 1) = v
    · rw [if_pos c] at hp
      rw [← c, (best r hr).val, e, hp]
      show d (R * _ + r) = _
      rw [Nat.mul_comm]
    · rw [if_neg c] at hp
      omega
  have split : ∀ k < R * (C + 1), 0 < R ∧ k % R < R ∧ k / R < C + 1 ∧ d k = row R d (k % R) (k / R) := fun k hk => by
    have hR : 0 < R := Nat.pos_of_ne_zero fun h => by rw [h, Nat.zero_mul] at hk; omega
    refine ⟨hR, Nat.mod_lt _ hR, Nat.div_lt_of_lt_mul hk, ?_⟩
    show d k = d (R * (k / R) + k % R)
    rw [Nat.div_add_mod]
  have all : ∀ k < R * (C + 1), v ≤ d k := fun k hk => by
    obtain ⟨_, hr, hn, e⟩ := split k hk
    rw [e]
    exact (vle _ hr).trans ((best _ hr).val ▸ (best _ hr).le _ hn)
  refine ⟨hi, hv, fun k hk => hv ▸ all k hk, fun k hk => ?_⟩
  have hk' := hk.trans hi
  rw [← hv]
  refine lt_of_le_of_ne (all k hk') fun same => ?_
  obtain ⟨hR, hr, hn, e⟩ := split k hk'
  have b := best _ hr
  have low_eq : low (row R d (k % R)) (C + 1) = v :=
    le_antisymm (by rw [same, e, b.val]; exact b.le _ hn) (vle _ hr)
  have hp := ile _ hr
  rw [hplace _ hr, if_pos low_eq] at hp
  have at_most : lowAt (row R d (k % R)) (C + 1) ≤ k / R := by
    by_contra c
    have := b.first (k / R) (by omega)
    rw [← b.val, low_eq, ← e, same] at this
    exact lt_irrefl _ this
  have h1 : lowAt (row R d (k % R)) (C + 1) * R ≤ k / R * R := Nat.mul_le_mul_right R at_most
  have h2 : k / R * R + k % R = k := Nat.div_add_mod' k R
  omega

end Cert.Best

end
-- ==== Proof.Nearest.lean ====
module

public import proofs.«01_k».proof.Proof.Best
public import proofs.«01_k».proof.Proof.Reference
public import Idealize.ShloMosaic.PureOps.Ideal.Laws
public import Idealize.ShloMosaic.Lib.ValueIdx
public import Idealize.ShloMosaic.Lib.IdealHost
public import Idealize.ShloMosaic.Lib.Pipeline.Value

/-!
The reference's two results over the extended reals: the first of the least of a query's distances, wherever these are below `+∞`.
-/

@[expose] public section

noncomputable section

namespace Cert.ReferenceIdeal.Hand

open Idealize.ShloMosaic Idealize.ShloMosaic.ValueIdx
open Cert.ReferenceIdeal Cert.ReferenceIdeal.Gen Cert.Best
open scoped BigOperators

/-- The pair order the reference compares by: the smaller value, and of equal values the smaller number. -/
def Below (p q : EReal × BitVec 32) : Prop := p.1 < q.1 ∨ p.1 = q.1 ∧ p.2.toInt ≤ q.2.toInt

/-- The reference's comparison keeps the first pair where that is strictly below the second, else the second. -/
theorem reducer_eq (p q : EReal × BitVec 32) :
    reducer_argmin_f32_i32 (F := Ideal) p q = if p.1 < q.1 ∨ p.1 = q.1 ∧ p.2.toInt < q.2.toInt then p else q := by
  obtain ⟨a, i⟩ := p
  obtain ⟨b, j⟩ := q
  have slt : i.slt j = decide (i.toInt < j.toInt) := rfl
  simp only [reducer_argmin_f32_i32, Ideal.cmpf_def, Ideal.cmp, IntOp.cmpi, IntOp.ori, IntOp.andi, slt]
  by_cases c : a < b
  · simp [c, c.ne, Scalar.select]
  by_cases e : a = b
  · subst e
    by_cases h : i.toInt < j.toInt <;> simp [h, Scalar.select]
  · simp [c, e, Scalar.select]

theorem below_refl (p : EReal × BitVec 32) : Below p p := .inr ⟨rfl, le_rfl⟩

theorem below_trans (p q r : EReal × BitVec 32) (h : Below p q) (h' : Below q r) : Below p r := by
  unfold Below at *
  rcases h with h | ⟨h, k⟩ <;> rcases h' with h' | ⟨h', k'⟩
  · exact .inl (h.trans h')
  · exact .inl (h' ▸ h)
  · exact .inl (h ▸ h')
  · exact .inr ⟨h.trans h', k.trans k'⟩

/-- It keeps one of the two pairs, -/
theorem reducer_one (p q : EReal × BitVec 32) : reducer_argmin_f32_i32 (F := Ideal) p q = p ∨ reducer_argmin_f32_i32 (F := Ideal) p q = q := by
  rw [reducer_eq]; split <;> simp

/-- below the first -/
theorem reducer_left (p q : EReal × BitVec 32) : Below (reducer_argmin_f32_i32 (F := Ideal) p q) p := by
  rw [reducer_eq]
  split
  · exact below_refl p
  · next h =>
    unfold Below
    rcases lt_trichotomy p.1 q.1 with c | c | c
    · exact absurd (.inl c) h
    · exact .inr ⟨c.symm, not_lt.1 fun k => h (.inr ⟨c, k⟩)⟩
    · exact .inl c

/-- and below the second. -/
theorem reducer_right (p q : EReal × BitVec 32) : Below (reducer_argmin_f32_i32 (F := Ideal) p q) q := by
  rw [reducer_eq]
  split
  · next h => exact h.imp id fun h => ⟨h.1, h.2.le⟩
  · exact below_refl q

/-- A place counted in a word below 4096 reads as itself. -/
theorem toInt_small (k : ℕ) (hk : k < 4096) : (BitVec.ofNat 32 k).toInt = k := by
  have e : (BitVec.ofNat 32 k).toNat = k := by rw [BitVec.toNat_ofNat]; omega
  rw [BitVec.toInt_eq_toNat_of_lt (by rw [e]; omega), e]

/-- An index over `j` has `j`'s coordinates before its last. -/
theorem over_iff (i : S8x4096x4096.Idx) (j : S8x4096.Idx) :
    reducesTo_S8x4096x4096_S8x4096_d2.drop i = j ↔ i = ix3 (n0 := 8) (n1 := 4096) (n2 := 4096) (j 0) (j 1) (i 2) := by
  have h0 := Shape.ReducesTo.drop_apply_val_of_eq reducesTo_S8x4096x4096_S8x4096_d2 i 0 0
  have h1 := Shape.ReducesTo.drop_apply_val_of_eq reducesTo_S8x4096x4096_S8x4096_d2 i 1 1
  constructor
  · rintro rfl
    funext a
    match a with
    | ⟨0, _⟩ => exact Fin.ext h0.symm
    | ⟨1, _⟩ => exact Fin.ext h1.symm
    | ⟨2, _⟩ => rfl
  · intro e
    funext b
    match b with
    | ⟨0, _⟩ => exact Fin.ext (h0.trans (congrArg (fun i : S8x4096x4096.Idx => (i 0).val) e))
    | ⟨1, _⟩ => exact Fin.ext (h1.trans (congrArg (fun i : S8x4096x4096.Idx => (i 1).val) e))

/-- The distances of one query, numbered by candidate. -/
def gap (x y : FVec Ideal S8x4096x3 .f32) (j : S8x4096.Idx) (k : ℕ) : EReal :=
  gaps x y (ix3 (n0 := 8) (n1 := 4096) (n2 := 4096) (j 0) (j 1) ⟨k % 4096, Nat.mod_lt _ (by decide)⟩)

theorem gap_eq (x y : FVec Ideal S8x4096x3 .f32) (j : S8x4096.Idx) (k : Fin 4096) :
    gap x y j k = gaps x y (ix3 (n0 := 8) (n1 := 4096) (n2 := 4096) (j 0) (j 1) k) :=
  congrArg (fun k => gaps x y (ix3 (n0 := 8) (n1 := 4096) (n2 := 4096) (j 0) (j 1) k)) (Fin.ext (Nat.mod_eq_of_lt k.isLt))

/-- The pattern of the fold's start is `+∞`. -/
theorem inf_f32 : Ideal.ofBits .f32 0x7F800000#32 = ⊤ := by simp [Ideal.ofBits, Ideal.ieee]

section
variable {α β : Type} {s t u : Shape} {axes : List (Fin s.rank)}

/-- The pairs a two-operand reduction folds over at `j` are those of the indices over `j`. -/
theorem mem_fiber (x : s.Idx → α) (y : s.Idx → β) (h : s.ReducesTo axes t) (j : t.Idx) (q : α × β) :
    q ∈ Host.argReduceFiber x y h j ↔ ∃ i, h.drop i = j ∧ q = (x i, y i) := by
  simp only [Host.argReduceFiber, List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- Over the extended reals a search over numbered values folds over those pairs. -/
theorem numbers_list (f : EReal × β → EReal × β → EReal × β) (x : FVec Ideal s .f32) (y : s.Idx → β) (ix : FVec Ideal u .f32)
    (iy : u.Idx → β) (h : s.ReducesTo axes t) (hu : 0 < u.numel) (j : t.Idx) (v : EReal) (i : β) (hv : ix (Shape.Idx.first hu) = v)
    (hi : iy (Shape.Idx.first hu) = i) :
    ∃ l : List (EReal × β), numbers (F := Ideal) f x y ix iy h hu j = (l.foldl f (v, i)).2 ∧ ∀ q, q ∈ l ↔ ∃ i, h.drop i = j ∧ q = (x i, y i) := by
  refine ⟨Host.argReduceFiber x y h j, ?_, mem_fiber x y h j⟩
  unfold numbers
  rw [Ideal.argReduce_eq_reduce2, Host.reduce2_eq_foldl_fiber, hv, hi]

/-- A reduction folds, at `j`, over the values at the indices over `j`. -/
theorem reduce_list (f : α → α → α) (x : s.Idx → α) (init : u.Idx → α) (h : s.ReducesTo axes t) (hu : 0 < u.numel) (j : t.Idx) :
    ∃ l : List α, Host.reduce f x init h hu j = l.foldl f (init (Shape.Idx.first hu)) ∧ ∀ q, q ∈ l ↔ ∃ i, h.drop i = j ∧ q = x i := by
  refine ⟨(((List.finRange s.numel).map s.rowMajor.symm).filter fun i => h.drop i = j).map x, ?_, fun q => ?_⟩
  · rw [Host.reduce_eq_foldl, List.foldl_map]
  · simp only [List.mem_map, List.mem_filter, List.mem_finRange, true_and, decide_eq_true_eq]
    constructor
    · rintro ⟨i, ⟨_, hn⟩, rfl⟩
      exact ⟨i, hn, rfl⟩
    · rintro ⟨i, hi, rfl⟩
      exact ⟨i, ⟨⟨_, s.rowMajor.symm_apply_apply i⟩, hi⟩, rfl⟩
end

/-- Folding the comparison over the numbered values, from `+∞`, ends with the number of the first of the least. -/
theorem pick_best (d : ℕ → EReal) (h : ∀ k < 4096, d k < ⊤) (l : List (EReal × BitVec 32)) (mem : ∀ q, q ∈ l ↔ ∃ k < 4096, q = (d k, BitVec.ofNat 32 k)) :
    ∃ v i, IsBest 4096 d v i ∧ (l.foldl (reducer_argmin_f32_i32 (F := Ideal)) (⊤, 0#32)).2 = BitVec.ofNat 32 i := by
  obtain ⟨hm, hle⟩ := foldl_pick (reducer_argmin_f32_i32 (F := Ideal)) Below below_refl below_trans reducer_one reducer_left reducer_right l (⊤, 0#32)
  generalize List.foldl _ _ _ = p at hm hle ⊢
  have all : ∀ k < 4096, Below p (d k, BitVec.ofNat 32 k) := fun k hk => hle _ (List.mem_cons_of_mem _ ((mem _).2 ⟨k, hk, rfl⟩))
  have fin : p.1 < ⊤ := by
    rcases all 0 (by decide) with c | c
    · exact c.trans (h 0 (by decide))
    · exact c.1 ▸ h 0 (by decide)
  rcases List.mem_cons.1 hm with rfl | hm
  · exact absurd rfl fin.ne
  obtain ⟨i, hi, rfl⟩ := (mem p).1 hm
  refine ⟨_, i, ⟨hi, rfl, fun k hk => ?_, fun k hk => ?_⟩, rfl⟩
  · rcases all k hk with c | c
    · exact c.le
    · exact c.1.le
  · rcases all k (hk.trans hi) with c | c
    · exact c
    · have := c.2
      simp only [toInt_small i hi, toInt_small k (hk.trans hi)] at this
      omega

/-- Folding `min` over the values, from `+∞`, ends with the least. -/
theorem min_best (d : ℕ → EReal) (h : ∀ k < 4096, d k < ⊤) (l : List EReal) (mem : ∀ q, q ∈ l ↔ ∃ k < 4096, q = d k) {v : EReal} {i : ℕ} (b : IsBest 4096 d v i) :
    l.foldl (FloatOps.minimumf (F := Ideal) (φ := .f32)) (⊤ : EReal) = v := by
  obtain ⟨hm, hle⟩ := foldl_pick (FloatOps.minimumf (F := Ideal) (φ := .f32)) (fun a b : EReal => a ≤ b) (fun a => le_refl (a : EReal)) (fun a b c => le_trans (α := EReal))
    (fun a b => min_choice (α := EReal) a b) (fun a b => min_le_left (α := EReal) a b) (fun a b => min_le_right (α := EReal) a b) l (⊤ : EReal)
  generalize List.foldl _ _ _ = p at hm hle ⊢
  have all : ∀ k < 4096, p ≤ d k := fun k hk => hle _ (List.mem_cons_of_mem _ ((mem _).2 ⟨k, hk, rfl⟩))
  rcases List.mem_cons.1 hm with rfl | hm
  · exact absurd rfl ((all 0 (by decide)).trans_lt (h 0 (by decide))).ne
  obtain ⟨k, hk, rfl⟩ := (mem p).1 hm
  rw [b.val]
  exact le_antisymm (all i b.lt) (b.le k hk)

/-- The reference's number is a word of the first of the least distances' place. -/
theorem nearest_best (x y : FVec Ideal S8x4096x3 .f32) (j : S8x4096.Idx) (h : ∀ k < 4096, gap x y j k < ⊤) :
    ∃ v i, IsBest 4096 (gap x y j) v i ∧ nearest x y j = BitVec.ofNat 32 i := by
  obtain ⟨l, e, mem⟩ := numbers_list (reducer_argmin_f32_i32 (F := Ideal)) (gaps x y) (iotaInDim S8x4096x4096 32 2) (constant (F := Ideal) S_ .f32 0x7F800000#32)
    (constantI S_ 32 0#32) reducesTo_S8x4096x4096_S8x4096_d2 h_S_ j ⊤ 0#32 inf_f32 rfl
  unfold nearest
  rw [e]
  refine pick_best (gap x y j) h l fun q => (mem q).trans ⟨?_, ?_⟩
  · rintro ⟨i, hi, rfl⟩
    have e := (over_iff i j).1 hi
    refine ⟨(i 2).val, (i 2).isLt, Prod.ext ?_ (iotaInDim_apply 32 2 i)⟩
    rw [gap_eq x y j (i 2), ← e]
  · rintro ⟨k, hk, rfl⟩
    refine ⟨ix3 (n0 := 8) (n1 := 4096) (n2 := 4096) (j 0) (j 1) ⟨k, hk⟩, (over_iff _ j).2 rfl, Prod.ext (gap_eq x y j ⟨k, hk⟩) ?_⟩
    exact (iotaInDim_apply (T := S8x4096x4096) 32 2 (ix3 (n0 := 8) (n1 := 4096) (n2 := 4096) (j 0) (j 1) ⟨k, hk⟩)).symm

/-- The reference's value is the least distance. -/
theorem least_best (x y : FVec Ideal S8x4096x3 .f32) (j : S8x4096.Idx) (h : ∀ k < 4096, gap x y j k < ⊤) {v : EReal} {i : ℕ}
    (b : IsBest 4096 (gap x y j) v i) : least x y j = v := by
  have start : constant (F := Ideal) S_ .f32 0x7F800000#32 (Shape.Idx.first h_S_) = (⊤ : EReal) := inf_f32
  unfold least
  obtain ⟨l, e, mem⟩ := reduce_list (FloatOps.minimumf (F := Ideal) (φ := .f32)) (gaps x y) (constant (F := Ideal) S_ .f32 0x7F800000#32)
    reducesTo_S8x4096x4096_S8x4096_d2 h_S_ j
  rw [e, start]
  refine min_best (gap x y j) h l (fun q => (mem q).trans ⟨?_, ?_⟩) b
  · rintro ⟨i, hi, rfl⟩
    have e := (over_iff i j).1 hi
    refine ⟨(i 2).val, (i 2).isLt, ?_⟩
    rw [gap_eq x y j (i 2), ← e]
  · rintro ⟨k, hk, rfl⟩
    exact ⟨ix3 (n0 := 8) (n1 := 4096) (n2 := 4096) (j 0) (j 1) ⟨k, hk⟩, (over_iff _ j).2 rfl, gap_eq x y j ⟨k, hk⟩⟩

end Cert.ReferenceIdeal.Hand

end
-- ==== Proof.Finite.lean ====
module

public import proofs.«01_k».proof.Pre_finite
public import proofs.«01_k».proof.Proof.Nearest

/-!
What the precondition says: every coordinate of both arguments is a real number.
-/

@[expose] public section

noncomputable section

namespace Cert.Finite

open Idealize.ShloMosaic Idealize.ShloMosaic.ValueIdx
open Cert.Pre_finite Cert.Best

/-- Where the conjunction of a list of bits is one, each of them is. -/
theorem bits_one (l : List (BitVec 1)) (a : BitVec 1) (h : l.foldl IntOp.andi a = 1#1) : ∀ b ∈ l, b = 1#1 := fun b hb =>
  (foldl_pick IntOp.andi (fun a b : BitVec 1 => a = 1#1 → b = 1#1) (fun _ e => e) (fun _ _ _ f g e => g (f e))
    (by decide) (by decide) (by decide) l a).2 b (List.mem_cons_of_mem _ hb) h

/-- An extended real whose absolute value is below `+∞` is real. -/
theorem real_of_abs (v : EReal) (h : FloatOps.cmpf (F := Ideal) (φ := .f32) .olt (max v (-v)) (Ideal.ofBits .f32 0x7F800000#32) = 1#1) : ∃ r : ℝ, v = (r : EReal) := by
  rw [Cert.ReferenceIdeal.Hand.inf_f32] at h
  have lt : max v (-v) < ⊤ := by
    by_contra c
    have e : FloatOps.cmpf (F := Ideal) (φ := .f32) .olt (max v (-v)) ⊤ = BitVec.ofBool (decide (max v (-v) < ⊤)) := rfl
    rw [e, decide_eq_false c] at h
    exact absurd h (by decide)
  obtain ⟨h1, h2⟩ := max_lt_iff.1 lt
  refine ⟨v.toReal, (EReal.coe_toReal h1.ne fun e => ?_).symm⟩
  rw [e, EReal.neg_bot] at h2
  exact lt_irrefl _ h2

variable [Facts]

/-- One argument whose test is one has real coordinates. -/
theorem real_of_test (x : FVec Ideal S8x4096x3 .f32) (j : S_.Idx)
    (h : Host.reduce IntOp.andi (cmpf .olt (Host.absf x) (broadcastInDim S8x4096x3 ![] Facts.bcast_S_S8x4096x3 (constant S_ .f32 0x7F800000#32)))
      (constantI S_ 1 1#1) Facts.reducesTo_S8x4096x3_S_d0_1_2 Facts.h_S_ j = 1#1) (i : S8x4096x3.Idx) : ∃ r : ℝ, x i = (r : EReal) := by
  obtain ⟨l, e, mem⟩ := Cert.ReferenceIdeal.Hand.reduce_list IntOp.andi
    (cmpf .olt (Host.absf x) (broadcastInDim S8x4096x3 ![] Facts.bcast_S_S8x4096x3 (constant S_ .f32 0x7F800000#32)))
    (constantI S_ 1 1#1) Facts.reducesTo_S8x4096x3_S_d0_1_2 Facts.h_S_ j
  rw [e] at h
  exact real_of_abs (x i) (bits_one l _ h _ ((mem _).2 ⟨i, funext fun a => a.elim0, rfl⟩))

/-- Under the precondition both arguments have real coordinates. -/
theorem reals (x y : FVec Ideal S8x4096x3 .f32) (h : Cert.Pre_finite.fn (F := Ideal) x y = fun _ => 1#1) :
    (∀ i, ∃ r : ℝ, x i = (r : EReal)) ∧ ∀ i, ∃ r : ℝ, y i = (r : EReal) := by
  have both := congrFun h (fun a => a.elim0)
  have split : ∀ a b : BitVec 1, IntOp.andi a b = 1#1 → a = 1#1 ∧ b = 1#1 := by decide
  obtain ⟨hx, hy⟩ := split _ _ both
  exact ⟨real_of_test x _ hx, real_of_test y _ hy⟩

end Cert.Finite

end
-- ==== Proof.Read.lean ====
module

public import proofs.«01_k».proof.Proof.Run
public import Idealize.ShloMosaic.Lib.Pipeline.ValueKit.Geometry

/-!
What the run leaves in the two results, entry by entry, and what the kernel's operands hold of the arguments.
-/

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The coordinates of an argument's points, axis by axis, as the host lays them out for the kernel. -/
theorem turned_apply (x : Vec F S8x4096x3 .f32) (b : Fin 8) (k : Fin 3) (n : Fin 4096) :
    transpose S8x3x4096 [0, 2, 1] x transposes_S8x4096x3_S8x3x4096_0_2_1 (ix3 (n0 := 8) (n1 := 3) (n2 := 4096) b k n)
      = x (ix3 (n0 := 8) (n1 := 4096) (n2 := 3) b n k) :=
  transpose_apply _ _ _ _ _ fun
    | ⟨0, _⟩ => rfl
    | ⟨1, _⟩ => rfl
    | ⟨2, _⟩ => rfl

/-- The queries as the kernel finds them. -/
theorem queries_apply (c : Dev nD) (b : Fin 8) (k : Fin 3) (n : Fin 4096) :
    V m c main_call0_v0 (ix3 (n0 := 8) (n1 := 3) (n2 := 4096) b k n) = m ((c : Thread nD τ).loc main_arg0) (ix3 (n0 := 8) (n1 := 4096) (n2 := 3) b n k) := by
  entry_read
  exact turned_apply _ b k n

/-- The candidates as the kernel finds them. -/
theorem candidates_apply (c : Dev nD) (b : Fin 8) (k : Fin 3) (n : Fin 4096) :
    V m c main_call0_v1 (ix3 (n0 := 8) (n1 := 3) (n2 := 4096) b k n) = m ((c : Thread nD τ).loc main_arg1) (ix3 (n0 := 8) (n1 := 4096) (n2 := 3) b n k) := by
  entry_read
  exact turned_apply _ b k n

/-- The grid point that works on a query, and the query's lane there. -/
def pointOf (b : Fin 8) (n : Fin 4096) : Fin cfg0.N := ⟨b.val * 4 + n.val / 1024, Nat.lt_of_lt_of_eq (by omega : _ < 32) N_0.symm⟩
def laneOf (n : Fin 4096) : Fin 1024 := ⟨n.val % 1024, Nat.mod_lt _ (by decide)⟩

/-- Rows of blocks laid end to end, 4 to a batch. -/
theorem flat_apply {α : Type} (x : S32x1x1024.Idx → α) (b : Fin 8) (n : Fin 4096) :
    shapeCast S8x4096 x shapeCasts_S32x1x1024_S8x4096 (ix2 (n0 := 8) (n1 := 4096) b n)
      = x (ix3 (n0 := 32) (n1 := 1) (n2 := 1024) ⟨b.val * 4 + n.val / 1024, by omega⟩ 0 (laneOf n)) := by
  refine shapeCast_apply _ _ _ _ ?_
  rw [Shape.rowMajor_val_three, Shape.rowMajor_val_two]
  have h := Nat.div_add_mod n.val 1024
  show ((b.val * 4 + n.val / 1024) * 1 + 0) * 1024 + n.val % 1024 = b.val * 4096 + n.val
  omega

/-- An array whose row `t` is the block of point `t`. -/
def stacked {α : Type} (f : Fin cfg0.N → S1x1x1024.Idx → α) : S32x1x1024.Idx → α := fun i =>
  f ⟨(i 0).val, Nat.lt_of_lt_of_eq (i 0).isLt N_0.symm⟩ (ix3 (n0 := 1) (n1 := 1) (n2 := 1024) 0 0 (i 2))

theorem stacked_emb {α : Type} (f : Fin cfg0.N → S1x1x1024.Idx → α) (t : Fin cfg0.N) (y : S1x1x1024.Idx) (i : S32x1x1024.Idx)
    (h0 : (i 0).val = t.val) (h2 : (i 2).val = (y 2).val) : stacked f i = f t y := by
  have hy0 : (y 0).val < 1 := (y 0).isLt
  have hy1 : (y 1).val < 1 := (y 1).isLt
  unfold stacked
  refine congrArg₂ f (Fin.ext h0) (funext fun a => ?_)
  match a with
  | ⟨0, _⟩ => exact Fin.ext (by show 0 = (y 0).val; omega)
  | ⟨1, _⟩ => exact Fin.ext (by show 0 = (y 1).val; omega)
  | ⟨2, _⟩ => exact Fin.ext h2

/-- The first result's array after the run. -/
theorem final_2 (c : Dev nD) : (dats m 0 c).arrAt 2 cfg0.N = stacked (best m c) := by
  refine (dats m 0 c).arrAt_eq_of_covers 2 _ (by decide +kernel) fun t _ y => ?_
  rw [after_2]
  obtain ⟨-, -, ⟨e0, e1, e2⟩, -⟩ := places t
  have hy0 : (y 0).val < 1 := (y 0).isLt
  blk_simp
  refine (stacked_emb (best m c) t y _ ?_ ?_).symm
  · show win0_2.index t (0 : Fin 3) * 1 + 1 * (y 0).val = t.val; omega
  · show win0_2.index t (2 : Fin 3) * 1024 + 1 * (y 2).val = (y 2).val; omega

/-- The second result's array after the run. -/
theorem final_3 (c : Dev nD) : (dats m 0 c).arrAt 3 cfg0.N = stacked (bestAt m c) := by
  refine (dats m 0 c).arrAt_eq_of_covers 3 _ (by decide +kernel) fun t _ y => ?_
  rw [after_3]
  obtain ⟨-, -, -, ⟨e0, e1, e2⟩⟩ := places t
  have hy0 : (y 0).val < 1 := (y 0).isLt
  blk_simp
  refine (stacked_emb (bestAt m c) t y _ ?_ ?_).symm
  · show win0_3.index t (0 : Fin 3) * 1 + 1 * (y 0).val = t.val; omega
  · show win0_3.index t (2 : Fin 3) * 1024 + 1 * (y 2).val = (y 2).val; omega

/-- The two results after the run: the arrays, relaid by the host. -/
theorem tail_0 (c : Dev nD) : Pipeline.afterTail₀ cfgs (dats m) 0 (V0 m) [hostOps1] c main_v0_0
    = shapeCast S8x4096 (stacked (best m c)) shapeCasts_S32x1x1024_S8x4096 := by
  have e : Pipeline.withArrays spec0 c (V0 m c) (fun w => (dats m 0 c).arrAt w cfg0.N) (Proc.devRef .tc main_call0_v2_0) = stacked (best m c) :=
    (Pipeline.withArrays_arr spec0 (by decide) c (V0 m c) _ 2).trans (final_2 m c)
  rw [← e]
  unfold Pipeline.afterTail₀
  simp only [hostOps1, List.flatten_cons, List.flatten_nil, List.append_nil]
  after_results
  rfl

theorem tail_1 (c : Dev nD) : Pipeline.afterTail₀ cfgs (dats m) 0 (V0 m) [hostOps1] c main_v0_1
    = shapeCast S8x4096 (stacked (bestAt m c)) shapeCasts_S32x1x1024_S8x4096 := by
  have e : Pipeline.withArrays spec0 c (V0 m c) (fun w => (dats m 0 c).arrAt w cfg0.N) (Proc.devRef .tc main_call0_v2_1) = stacked (bestAt m c) :=
    (Pipeline.withArrays_arr spec0 (by decide) c (V0 m c) _ 3).trans (final_3 m c)
  rw [← e]
  unfold Pipeline.afterTail₀
  simp only [hostOps1, List.flatten_cons, List.flatten_nil, List.append_nil]
  after_results
  rfl

end Cert.KernelIdeal.Hand

end
-- ==== Proof.Entry.lean ====
module

public import proofs.«01_k».proof.Proof.Fill
public import Idealize.ShloMosaic.PureOps.Ideal.Laws
public import Idealize.ShloMosaic.Lib.ValueIdx
public import Idealize.ShloMosaic.Lib.IdealHost

/-!
One distance of the kernel over the extended reals: the product of a column of candidates with a column of queries is the squared
distance, wherever the coordinates are real numbers.
-/

@[expose] public section

set_option maxRecDepth 16384

noncomputable section

namespace Cert.KernelIdeal.Hand

open Idealize.ShloMosaic Idealize.ShloMosaic.ValueIdx
open Cert.KernelIdeal Cert.KernelIdeal.Gen
open scoped BigOperators

/-- The sum of three squares, as the kernel writes it. -/
def sq (p : Fin 3 → EReal) : EReal := p 0 * p 0 + p 1 * p 1 + p 2 * p 2

/-- A block without its leading axis. -/
theorem drop_lead {α : Type} {M : ℕ} (x : (⟨3, ![1, 3, M]⟩ : Shape).Idx → α) (h : (⟨3, ![1, 3, M]⟩ : Shape).ShapeCasts ⟨2, ![3, M]⟩)
    (c : Fin 3) (l : Fin M) : shapeCast ⟨2, ![3, M]⟩ x h (ix2 c l) = x (ix3 0 c l) :=
  (shapeCast_dropUnit_apply ![3, M] x h (ix2 c l)).trans (congrArg x (funext fun
    | ⟨0, _⟩ => rfl
    | ⟨1, _⟩ => rfl
    | ⟨2, _⟩ => rfl))

/-- A row cut out of three. -/
theorem cut_row {α : Type} {M : ℕ} (x : (⟨2, ![3, M]⟩ : Shape).Idx → α) (o : ℕ) (c : Fin 3) (ho : c.val = o) (h : (⟨2, ![3, M]⟩ : Shape).Slices ![o, 0] ⟨2, ![1, M]⟩)
    (l : Fin M) : extractStridedSlice ⟨2, ![1, M]⟩ ![o, 0] x h (ix2 0 l) = x (ix2 c l) :=
  extractStridedSlice_apply _ _ _ _ _ fun
    | ⟨0, _⟩ => ho
    | ⟨1, _⟩ => (Nat.zero_add _).symm

/-- The sum of the squares of a block's three rows, at a lane. -/
theorem norm_rows {M : ℕ} (x : FVec Ideal ⟨3, ![1, 3, M]⟩ .f32) (h : (⟨3, ![1, 3, M]⟩ : Shape).ShapeCasts ⟨2, ![3, M]⟩)
    (s0 : (⟨2, ![3, M]⟩ : Shape).Slices ![0, 0] ⟨2, ![1, M]⟩) (s1 : (⟨2, ![3, M]⟩ : Shape).Slices ![1, 0] ⟨2, ![1, M]⟩)
    (s2 : (⟨2, ![3, M]⟩ : Shape).Slices ![2, 0] ⟨2, ![1, M]⟩) (l : Fin M) :
    addf (addf
        (mulf (φ := .f32) (extractStridedSlice ⟨2, ![1, M]⟩ ![0, 0] (shapeCast ⟨2, ![3, M]⟩ x h) s0) (extractStridedSlice ⟨2, ![1, M]⟩ ![0, 0] (shapeCast ⟨2, ![3, M]⟩ x h) s0))
        (mulf (extractStridedSlice ⟨2, ![1, M]⟩ ![1, 0] (shapeCast ⟨2, ![3, M]⟩ x h) s1) (extractStridedSlice ⟨2, ![1, M]⟩ ![1, 0] (shapeCast ⟨2, ![3, M]⟩ x h) s1)))
        (mulf (extractStridedSlice ⟨2, ![1, M]⟩ ![2, 0] (shapeCast ⟨2, ![3, M]⟩ x h) s2) (extractStridedSlice ⟨2, ![1, M]⟩ ![2, 0] (shapeCast ⟨2, ![3, M]⟩ x h) s2))
        (ix2 0 l) = sq fun c => x (ix3 0 c l) := by
  simp only [addf_apply, mulf_apply]
  rw [cut_row _ 0 0 rfl, cut_row _ 1 1 rfl, cut_row _ 2 2 rfl, drop_lead, drop_lead, drop_lead]
  rfl

/-- The squared norm of a candidate. -/
theorem norm_cand (x1 : Vec Ideal S1x3x4096 .f32) (l : Fin 4096) : k0_pay8 x1 (ix2 (n0 := 1) (n1 := 4096) 0 l) = sq fun c => x1 (ix3 0 c l) :=
  norm_rows x1 shapeCasts_S1x3x4096_S3x4096 slices_S3x4096_o0_0_S1x4096 slices_S3x4096_o1_0_S1x4096 slices_S3x4096_o2_0_S1x4096 l

theorem two_bf16 : Ideal.ofBits .bf16 0xC000#16 = ((-(2 : ℝ) : ℝ) : EReal) := by
  simp [Ideal.ofBits, Ideal.ieee, -EReal.coe_mul, -EReal.coe_neg]; norm_num

/-- The first scratch, row by row. -/
theorem scr0_row (x1 : Vec Ideal S1x3x4096 .f32) (k : Fin 8) (l : Fin 4096) : scr0 x1 (ix2 (n0 := 8) (n1 := 4096) k l)
    = (![x1 (ix3 0 0 l) * ((-(2 : ℝ) : ℝ) : EReal), x1 (ix3 0 1 l) * ((-(2 : ℝ) : ℝ) : EReal), x1 (ix3 0 2 l) * ((-(2 : ℝ) : ℝ) : EReal),
      sq fun c => x1 (ix3 0 c l), (sq fun c => x1 (ix3 0 c l)) - (sq fun c => x1 (ix3 0 c l)),
      ((sq fun c => x1 (ix3 0 c l)) - (sq fun c => x1 (ix3 0 c l))) - ((sq fun c => x1 (ix3 0 c l)) - (sq fun c => x1 (ix3 0 c l))), 1, 1] : Fin 8 → EReal) k := by
  have coord : ∀ c : Fin 3, k0_pay14 x1 (ix2 (n0 := 3) (n1 := 4096) c l) = x1 (ix3 0 c l) * ((-(2 : ℝ) : ℝ) : EReal) := fun c => by
    unfold k0_pay14 k0_pay13 k0_pay7
    rw [shapeCast_self, mulf_apply, truncf_apply, drop_lead, broadcast_apply]
    exact congrArg _ two_bf16
  have one : k0_pay18 (F := Ideal) (ix2 (n0 := 2) (n1 := 4096) 0 l) = 1 := by
    unfold k0_pay18
    rw [shapeCast_self]
    exact Ideal.ofBits_one_bf16
  match k with
  | 0 => exact coord 0
  | 1 => exact coord 1
  | 2 => exact coord 2
  | 3 => exact (congrFun (show k0_pay15 x1 = k0_pay8 x1 by unfold k0_pay15; exact shapeCast_self _ _) _).trans (norm_cand x1 l)
  | 4 =>
    show k0_pay16 x1 (ix2 (n0 := 1) (n1 := 4096) 0 l) = _
    unfold k0_pay16 k0_pay11 k0_pay10 k0_pay9
    rw [shapeCast_self, truncf_apply, subf_apply, extf_apply, truncf_apply, norm_cand]
    rfl
  | 5 =>
    show k0_pay17 x1 (ix2 (n0 := 1) (n1 := 4096) 0 l) = _
    unfold k0_pay17 k0_pay12 k0_pay11 k0_pay10 k0_pay9
    rw [shapeCast_self, truncf_apply, subf_apply, extf_apply, truncf_apply, subf_apply, extf_apply, truncf_apply, norm_cand]
    rfl
  | 6 => exact one
  | 7 => exact one

/-- The query operand, row by row. -/
theorem query_row (x0 : Vec Ideal S1x3x1024 .f32) (k : Fin 8) (l : Fin 1024) : k0_pay22 x0 (ix2 (n0 := 8) (n1 := 1024) k l)
    = (![x0 (ix3 0 0 l), x0 (ix3 0 1 l), x0 (ix3 0 2 l), 1, 1, 1, sq fun c => x0 (ix3 0 c l),
      (sq fun c => x0 (ix3 0 c l)) - (sq fun c => x0 (ix3 0 c l))] : Fin 8 → EReal) k := by
  have coord : ∀ c : Fin 3, k0_pay22 x0 (ix2 (n0 := 8) (n1 := 1024) (c.castLE (by decide)) l) = x0 (ix3 0 c l) := fun c => by
    unfold k0_pay22
    refine (stack_apply (N := 8) (n := 3) _ _ 0 (by show 0 < 4; decide) _ rfl 0 rfl _ c l (Nat.zero_add _)).trans ?_
    rw [truncf_apply, drop_lead]
  have one : ∀ c : Fin 3, k0_pay22 x0 (ix2 (n0 := 8) (n1 := 1024) ⟨3 + c.val, by omega⟩ l) = 1 := fun c => by
    unfold k0_pay22
    refine (stack_apply (N := 8) (n := 3) _ _ 1 (by show 1 < 4; decide) _ rfl 3 rfl _ c l rfl).trans ?_
    exact Ideal.ofBits_one_bf16
  match k with
  | 0 => exact coord 0
  | 1 => exact coord 1
  | 2 => exact coord 2
  | 3 => exact one 0
  | 4 => exact one 1
  | 5 => exact one 2
  | 6 =>
    unfold k0_pay22
    refine (stack_apply (N := 8) (n := 1) _ _ 2 (by show 2 < 4; decide) _ rfl 6 rfl _ 0 l rfl).trans ?_
    exact norm_rows x0 shapeCasts_S1x3x1024_S3x1024 slices_S3x1024_o0_0_S1x1024 slices_S3x1024_o1_0_S1x1024 slices_S3x1024_o2_0_S1x1024 l
  | 7 =>
    unfold k0_pay22
    refine (stack_apply (N := 8) (n := 1) _ _ 3 (by show 3 < 4; decide) _ rfl 7 rfl _ 0 l rfl).trans ?_
    have e := norm_rows x0 shapeCasts_S1x3x1024_S3x1024 slices_S3x1024_o0_0_S1x1024 slices_S3x1024_o1_0_S1x1024 slices_S3x1024_o2_0_S1x1024 l
    exact congrArg₂ (fun a b : EReal => a - b) e e

/-- A product over the eight rows, read at an entry. -/
theorem dist_apply (a : FVec Ideal S8x1024 .bf16) (b : Vec Ideal S8x64 .bf16) (r : Fin 64) (l : Fin 1024) :
    dist a b (ix2 (n0 := 64) (n1 := 1024) r l) = ∑ k : Fin 8, b (ix2 (n0 := 8) (n1 := 64) k r) * a (ix2 (n0 := 8) (n1 := 1024) k l) := by
  unfold dist
  simp only [matmul]
  rw [Ideal.matmul_constant_zero_apply, ← Equiv.sum_comp (contrEquiv1 dot_S8x64_S8x1024_S64x1024_0_0_1_1_n_n 8 rfl rfl).symm]
  refine Finset.sum_congr rfl fun k _ => ?_
  have hk := contrEquiv1_symm_val dot_S8x64_S8x1024_S64x1024_0_0_1_1_n_n 8 rfl rfl k
  refine congrArg₂ (fun (i : S8x64.Idx) (i' : S8x1024.Idx) => b i * a i') (funext fun c => ?_) (funext fun c => ?_)
  · match c with
    | ⟨0, _⟩ => exact Fin.ext hk
    | ⟨1, _⟩ => rfl
  · match c with
    | ⟨0, _⟩ => exact Fin.ext hk
    | ⟨1, _⟩ => rfl

/-- The kernel's distance between a query and a candidate with real coordinates: their squared norms less twice their inner product. -/
theorem dist_cand (x0 : Vec Ideal S1x3x1024 .f32) (x1 : Vec Ideal S1x3x4096 .f32) (n : ℕ) (r : Fin 64) (l : Fin 1024) (j : Fin 4096) (hj : j.val = (64 * n + r.val) % 4096)
    (p q : Fin 3 → ℝ) (hp : ∀ c, x0 (ix3 0 c l) = (p c : EReal)) (hq : ∀ c, x1 (ix3 0 c j) = (q c : EReal)) :
    dist (k0_pay22 x0) (cand x1 n) (ix2 (n0 := 64) (n1 := 1024) r l)
      = (((∑ c, p c * p c) + (∑ c, q c * q c) - 2 * ∑ c, p c * q c : ℝ) : EReal) := by
  have at_j : ∀ k : Fin 8, cand x1 n (ix2 (n0 := 8) (n1 := 64) k r) = scr0 x1 (ix2 (n0 := 8) (n1 := 4096) k j) := fun k =>
    congrArg (fun j => scr0 x1 (ix2 (n0 := 8) (n1 := 4096) k j)) (Fin.ext hj.symm)
  have sp : (sq fun c => x0 (ix3 0 c l)) = ((p 0 * p 0 + p 1 * p 1 + p 2 * p 2 : ℝ) : EReal) := by
    simp only [sq, hp]; norm_cast
  have sq' : (sq fun c => x1 (ix3 0 c j)) = ((q 0 * q 0 + q 1 * q 1 + q 2 * q 2 : ℝ) : EReal) := by
    simp only [sq, hq]; norm_cast
  obtain ⟨m, hm⟩ : ∃ m : ℝ, m = -2 := ⟨_, rfl⟩
  rw [dist_apply, Fin.sum_univ_eight]
  simp only [at_j, scr0_row, query_row, sp, sq', ← hm, Matrix.cons_val]
  simp only [hp, hq, mul_one, one_mul, ← EReal.coe_mul, ← EReal.coe_add, ← EReal.coe_sub]
  refine congrArg _ ?_
  subst hm
  simp only [Fin.sum_univ_three]
  ring

end Cert.KernelIdeal.Hand

end
-- ==== Proof.Search.lean ====
module

public import proofs.«01_k».proof.Proof.Best
public import proofs.«01_k».proof.Proof.Fold
public import Idealize.ShloMosaic.PureOps.Ideal.Laws
public import Idealize.ShloMosaic.Lib.ValueIdx
public import Idealize.ShloMosaic.Lib.ValueLayoutCasts
public import Idealize.ShloMosaic.Lib.IdealHost
public import Idealize.ShloMosaic.Lib.Pipeline.Value

/-!
What a block of the two results holds over the extended reals: for every query of the block the first of the least of its 4096 distances,
wherever these are below `+∞`.
-/

@[expose] public section

set_option maxRecDepth 16384

noncomputable section

namespace Cert.KernelIdeal.Hand

open Idealize.ShloMosaic Idealize.ShloMosaic.ValueIdx
open Cert.KernelIdeal Cert.KernelIdeal.Gen Cert.Best

/-- The pattern the search starts from is `+∞`. -/
theorem start_top : Ideal.ofBits .f32 0x7F800000#32 = ⊤ := by simp [Ideal.ofBits, Ideal.ieee]

/-- A select on a decided condition is a choice by it. -/
theorem select_ofBool {α : Type} (p : Prop) [Decidable p] (a b : α) : Scalar.select (BitVec.ofBool (decide p)) a b = if p then a else b := by
  by_cases h : p <;> simp [h, Scalar.select]

/-- The comparisons of the search: strictly below, and equal. -/
theorem cmp_lt (a b : EReal) : FloatOps.cmpf (F := Ideal) (φ := .f32) .olt a b = BitVec.ofBool (decide (a < b)) := rfl
theorem cmp_eq (a b : EReal) : FloatOps.cmpf (F := Ideal) (φ := .f32) .oeq a b = BitVec.ofBool (decide (a = b)) := rfl

section
variable (a : FVec Ideal S8x1024 .bf16) (ld : ℕ → Vec Ideal S8x64 .bf16) (r : Fin 64) (l : Fin 1024)

/-- The distances of one row and one query, chunk by chunk. -/
def line : ℕ → EReal := fun n => dist a (ld n) (ix2 (n0 := 64) (n1 := 1024) r l)

/-- The running least distance of a row and a query. -/
theorem runMin_low : ∀ n, runMin a ld n (ix2 (n0 := 64) (n1 := 1024) r l) = low (line a ld r l) n
  | 0 => start_top
  | n + 1 => by
    show select (cmpf .olt (dist a (ld n)) (runMin a ld n)) (dist a (ld n)) (runMin a ld n) _ = _
    rw [select_apply, cmpf_apply, runMin_low n, cmp_lt, select_ofBool]
    rfl

/-- The number of its chunk, as a word. -/
theorem runIdx_low : ∀ n, runIdx a ld n (ix2 (n0 := 64) (n1 := 1024) r l) = BitVec.ofNat 32 (lowAt (line a ld r l) n)
  | 0 => rfl
  | n + 1 => by
    show select (cmpf .olt (dist a (ld n)) (runMin a ld n)) (broadcast S64x1024 (BitVec.ofNat 32 n)) (runIdx a ld n) _ = _
    rw [select_apply, cmpf_apply, runMin_low a ld r l n, runIdx_low n, cmp_lt, select_ofBool, broadcast_apply]
    show _ = BitVec.ofNat 32 (if line a ld r l n < low (line a ld r l) n then n else lowAt (line a ld r l) n)
    rw [apply_ite (BitVec.ofNat 32)]
    rfl
end

/-- A reduction over the 64 rows whose operation keeps one of two values, below both, ends with the start or with a row's value, below all of them. -/
theorem rows_pick {α : Type} (h : S64x1024.Reduces [0] S1024) (f : α → α → α) (init : α) (x : S64x1024.Idx → α) (l : Fin 1024) (le : α → α → Prop)
    (refl : ∀ a, le a a) (trans : ∀ a b c, le a b → le b c → le a c) (one : ∀ a b, f a b = a ∨ f a b = b) (left : ∀ a b, le (f a b) a) (right : ∀ a b, le (f a b) b) :
    (reduceFold h f init x (ix1 l) = init ∨ ∃ r : Fin 64, reduceFold h f init x (ix1 l) = x (ix2 (n0 := 64) (n1 := 1024) r l))
      ∧ ∀ r : Fin 64, le (reduceFold h f init x (ix1 l)) (x (ix2 (n0 := 64) (n1 := 1024) r l)) := by
  have at_row : ∀ r : Fin 64, x (Shape.pair (d := ![64, 1024]) r (h.col (ix1 l))) = x (ix2 (n0 := 64) (n1 := 1024) r l) := fun r =>
    congrArg x ((pair_eq_ix2 (n0 := 64) (n1 := 1024) _ _).trans rfl)
  have e : reduceFold h f init x (ix1 l) = ((List.finRange 64).map fun r => x (ix2 (n0 := 64) (n1 := 1024) r l)).foldl f init := by
    rw [List.foldl_map]
    refine (reduceFold_rows h f init x (ix1 l)).trans ?_
    exact congrArg (fun g => List.foldl g init (List.finRange 64)) (funext fun acc => funext fun r => congrArg (f acc) (at_row r))
  rw [e]
  obtain ⟨hm, hle⟩ := foldl_pick f le refl trans one left right ((List.finRange 64).map fun r => x (ix2 (n0 := 64) (n1 := 1024) r l)) init
  refine ⟨?_, fun r => hle _ (List.mem_cons_of_mem _ (List.mem_map.2 ⟨r, List.mem_finRange r, rfl⟩))⟩
  rcases List.mem_cons.1 hm with c | c
  · exact .inl c
  · obtain ⟨r, _, c⟩ := List.mem_map.1 c
    exact .inr ⟨r, c.symm⟩

/-- A small number's word reads back as it. -/
theorem toInt_le (k : ℕ) (hk : k ≤ 4096) : (BitVec.ofNat 32 k).toInt = k := by
  rw [BitVec.toInt_eq_toNat_cond, BitVec.toNat_ofNat, Nat.mod_eq_of_lt (by omega), if_pos (by omega)]

/-- The signed minimum keeps one of its two words, below both. -/
theorem minsi_one (a b : BitVec 32) : IntOp.minsi a b = a ∨ IntOp.minsi a b = b := by
  unfold IntOp.minsi; split <;> simp
theorem minsi_left (a b : BitVec 32) : (IntOp.minsi a b).toInt ≤ a.toInt := by
  unfold IntOp.minsi
  split
  · exact le_refl _
  · rename_i h; simp only [BitVec.slt, decide_eq_true_eq, not_lt] at h; exact h
theorem minsi_right (a b : BitVec 32) : (IntOp.minsi a b).toInt ≤ b.toInt := by
  unfold IntOp.minsi
  split
  · rename_i h; simp only [BitVec.slt, decide_eq_true_eq] at h; exact h.le
  · exact le_refl _

/-- A block of least distances, at a query: the reduction of the rows' least distances. -/
theorem outD_rows (a : FVec Ideal S8x1024 .bf16) (ld : ℕ → Vec Ideal S8x64 .bf16) (l : Fin 1024) :
    outD a ld (ix3 (n0 := 1) (n1 := 1) (n2 := 1024) 0 0 l)
      = reduceFold reduces_S64x1024_S1024 (FloatOps.minimumf (F := Ideal) (φ := .f32)) (Ideal.ofBits .f32 0x7F800000#32) (runMin a ld 64) (ix1 l) := by
  unfold outD k0_pay5 k0_pay4
  refine (shapeCast_addUnit_apply ![1, 1024] _ _ _).trans ?_
  refine (shapeCast_addUnit_apply ![1024] _ _ _).trans ?_
  refine (congrArg _ (eq_ix1 _)).trans ?_
  rfl

/-- The place of a row's least distance if it is the block's, else 4096. -/
def spots (a : FVec Ideal S8x1024 .bf16) (ld : ℕ → Vec Ideal S8x64 .bf16) : IVec S64x1024 32 :=
  select (cmpf .oeq (runMin a ld 64) (broadcastTo S64x1024 (k0_pay4 a (runMin a ld 63) (ld 63)) broadcasts_S1x1024_S64x1024))
    (addi (muli (runIdx a ld 64) (broadcast S64x1024 64#32)) (iota .tc S64x1024 32 [0] iota_S64x1024_d0_w32)) (broadcast S64x1024 4096#32)

/-- A block of positions, at a query: the reduction of the rows' places. -/
theorem outI_rows (a : FVec Ideal S8x1024 .bf16) (ld : ℕ → Vec Ideal S8x64 .bf16) (l : Fin 1024) :
    outI a ld (ix3 (n0 := 1) (n1 := 1) (n2 := 1024) 0 0 l)
      = reduceFold reduces_S64x1024_S1024 IntOp.minsi 2147483647#32 (spots a ld) (ix1 l) := by
  unfold outI k0_pay6
  refine (shapeCast_addUnit_apply ![1, 1024] _ _ _).trans ?_
  refine (shapeCast_addUnit_apply ![1024] _ _ _).trans ?_
  refine (congrArg _ (eq_ix1 _)).trans ?_
  rfl

/-- A row's place, as a number's word. -/
theorem spots_apply (a : FVec Ideal S8x1024 .bf16) (ld : ℕ → Vec Ideal S8x64 .bf16) (r : Fin 64) (l : Fin 1024) :
    spots a ld (ix2 (n0 := 64) (n1 := 1024) r l) = BitVec.ofNat 32 (if low (line a ld r l) 64 = outD a ld (ix3 (n0 := 1) (n1 := 1) (n2 := 1024) 0 0 l)
      then lowAt (line a ld r l) 64 * 64 + r.val else 4096) := by
  have top : broadcastTo S64x1024 (k0_pay4 a (runMin a ld 63) (ld 63)) broadcasts_S1x1024_S64x1024 (ix2 (n0 := 64) (n1 := 1024) r l)
      = outD a ld (ix3 (n0 := 1) (n1 := 1) (n2 := 1024) 0 0 l) := by
    unfold outD k0_pay5
    refine (broadcastTo_apply _ _ _ (ix2 (n0 := 1) (n1 := 1024) 0 l) fun | ⟨0, _⟩ => rfl | ⟨1, _⟩ => rfl).trans ?_
    refine Eq.trans ?_ (shapeCast_addUnit_apply ![1, 1024] _ _ _).symm
    exact congrArg _ (funext fun | ⟨0, _⟩ => rfl | ⟨1, _⟩ => rfl)
  unfold spots
  rw [select_apply, cmpf_apply, runMin_low, top, cmp_eq, select_ofBool, broadcast_apply,
    apply_ite (BitVec.ofNat 32)]
  show (if low (line a ld r l) 64 = outD a ld (ix3 (n0 := 1) (n1 := 1) (n2 := 1024) 0 0 l) then IntOp.addi (IntOp.muli (runIdx a ld 64 _) 64#32) (iota .tc S64x1024 32 [0] iota_S64x1024_d0_w32 _) else _) = _
  rw [runIdx_low, iota_single_apply]
  refine if_congr Iff.rfl ?_ rfl
  rw [BitVec.ofNat_add, BitVec.ofNat_mul]
  rfl

/-- For a query whose distances are all below `+∞`, the block's value and position are the first of the least of them. -/
theorem block_best (a : FVec Ideal S8x1024 .bf16) (ld : ℕ → Vec Ideal S8x64 .bf16) (l : Fin 1024) (d : ℕ → EReal) (hd : ∀ k < 4096, d k < ⊤)
    (hld : ∀ (r : Fin 64), line a ld r l = row 64 d r.val) :
    ∃ i, IsBest 4096 d (outD a ld (ix3 (n0 := 1) (n1 := 1) (n2 := 1024) 0 0 l)) i ∧ outI a ld (ix3 (n0 := 1) (n1 := 1) (n2 := 1024) 0 0 l) = BitVec.ofNat 32 i := by
  have small : ∀ r : Fin 64, IsBest 64 (row 64 d r.val) (low (row 64 d r.val) 64) (lowAt (row 64 d r.val) 64) := fun r =>
    low_best _ 63 fun k hk => hd _ (by have := r.isLt; omega)
  obtain ⟨v1, vle⟩ := rows_pick reduces_S64x1024_S1024 (FloatOps.minimumf (F := Ideal) (φ := .f32)) (Ideal.ofBits .f32 0x7F800000#32) (runMin a ld 64) l
    (fun a b : EReal => a ≤ b) (fun a => le_refl (a : EReal)) (fun a b c => le_trans (α := EReal))
    (fun a b => min_choice (α := EReal) a b) (fun a b => min_le_left (α := EReal) a b) (fun a b => min_le_right (α := EReal) a b)
  obtain ⟨i1, ile⟩ := rows_pick reduces_S64x1024_S1024 IntOp.minsi 2147483647#32 (spots a ld) l (fun a b => a.toInt ≤ b.toInt) (fun a => le_refl _)
    (fun a b c => le_trans) minsi_one minsi_left minsi_right
  simp only [← outD_rows, ← outI_rows, runMin_low, spots_apply, hld] at v1 vle i1 ile
  generalize outD a ld (ix3 (n0 := 1) (n1 := 1) (n2 := 1024) 0 0 l) = v at v1 vle i1 ile ⊢
  generalize outI a ld (ix3 (n0 := 1) (n1 := 1) (n2 := 1024) 0 0 l) = w at i1 ile ⊢
  have place_le : ∀ r : Fin 64, (if low (row 64 d r.val) 64 = v then lowAt (row 64 d r.val) 64 * 64 + r.val else 4096) ≤ 4096 := fun r => by
    have := (small r).lt
    have := r.isLt
    split <;> omega
  have vone : ∃ r < 64, v = low (row 64 d r) (63 + 1) := by
    rcases v1 with c | ⟨r, c⟩
    · have := vle 0
      rw [c, start_top, (small 0).val] at this
      exact absurd (this.trans_lt (hd _ (by have := (small 0).lt; show 64 * _ + 0 < 4096; omega))) (lt_irrefl _)
    · exact ⟨r.val, r.isLt, c⟩
  obtain ⟨i, rfl, ile', ione⟩ : ∃ i, w = BitVec.ofNat 32 i
      ∧ (∀ r : Fin 64, i ≤ if low (row 64 d r.val) 64 = v then lowAt (row 64 d r.val) 64 * 64 + r.val else 4096)
      ∧ ∃ r : Fin 64, i = if low (row 64 d r.val) 64 = v then lowAt (row 64 d r.val) 64 * 64 + r.val else 4096 := by
    rcases i1 with c | ⟨r, c⟩
    · have := ile 0
      rw [c, toInt_le _ (place_le 0)] at this
      have h := place_le 0
      have big : (2147483647#32).toInt = 2147483647 := by decide
      rw [big] at this
      omega
    · refine ⟨_, c, fun r' => ?_, r, rfl⟩
      have := ile r'
      rw [c, toInt_le _ (place_le r), toInt_le _ (place_le r')] at this
      exact_mod_cast this
  exact ⟨i, rows_best 64 63 d hd v i (fun r hr => vle ⟨r, hr⟩) vone (fun r => if low (row 64 d r) 64 = v then lowAt (row 64 d r) 64 * 64 + r else 4096)
    (fun r _ => rfl) (fun r hr => ile' ⟨r, hr⟩) (let ⟨r, h⟩ := ione; ⟨r.val, r.isLt, h⟩), rfl⟩

end Cert.KernelIdeal.Hand

end
-- ==== Proof.Gaps.lean ====
module

public import proofs.«01_k».proof.Proof.Reference
public import Idealize.ShloMosaic.PureOps.Ideal.Laws
public import Idealize.ShloMosaic.Lib.ValueIdx
public import Idealize.ShloMosaic.Lib.IdealHost
public import Idealize.ShloMosaic.Lib.Pipeline.Value

/-!
The reference's distances over the extended reals, entry by entry.
-/

@[expose] public section

noncomputable section

namespace Cert.ReferenceIdeal.Hand

open Idealize.ShloMosaic Idealize.ShloMosaic.ValueIdx
open Cert.ReferenceIdeal Cert.ReferenceIdeal.Gen
open scoped BigOperators

/-- One distance: the two squared norms less twice the inner product. -/
theorem gaps_apply (x y : FVec Ideal S8x4096x3 .f32) (b : Fin 8) (n k : Fin 4096) :
    gaps x y (ix3 b n k) = (∑ c : Fin 3, x (ix3 b n c) * x (ix3 b n c)) + (∑ c : Fin 3, y (ix3 b k c) * y (ix3 b k c))
      - 2 * ∑ c : Fin 3, x (ix3 b n c) * y (ix3 b k c) := by
  have norm : ∀ (z : FVec Ideal S8x4096x3 .f32) (b : Fin 8) (n : Fin 4096), norms z (ix2 b n) = ∑ c : Fin 3, z (ix3 b n c) * z (ix3 b n c) := fun z b n => by
    unfold norms
    rw [hostReduceAdd_apply, Ideal.hostReduceAdd_single _ (by decide)]
    refine (congrArg (· + _) Ideal.ofBits_zero_f32).trans ((zero_add _).trans (Finset.sum_congr rfl fun c _ => ?_))
    rw [mulf_apply]
    refine congrArg (fun i : S8x4096x3.Idx => z i * z i) (funext fun a => ?_)
    match a with
    | ⟨0, _⟩ => rfl
    | ⟨1, _⟩ => rfl
    | ⟨2, _⟩ => rfl
  have two : Ideal.ofBits .f32 0x40000000#32 = 2 := by
    simp [Ideal.ofBits, Ideal.ieee]
    rw [← EReal.coe_mul]
    norm_num
    rfl
  unfold gaps
  rw [subf_apply, addf_apply, mulf_apply]
  have h1 : broadcastInDim S8x4096x4096 ![0, 1, 2] bcast_S8x4096x1_S8x4096x4096_0_1_2 (broadcastInDim S8x4096x1 ![0, 1] bcast_S8x4096_S8x4096x1_0_1 (norms x)) (ix3 b n k)
      = norms x (ix2 b n) := by
    rw [broadcastInDim_apply (k := ix3 (n0 := 8) (n1 := 4096) (n2 := 1) b n 0) (hk := fun | ⟨0, _⟩ => rfl | ⟨1, _⟩ => rfl | ⟨2, _⟩ => rfl),
      broadcastInDim_apply (k := ix2 (n0 := 8) (n1 := 4096) b n) (hk := fun | ⟨0, _⟩ => rfl | ⟨1, _⟩ => rfl)]
  have h2 : broadcastInDim S8x4096x4096 ![0, 1, 2] bcast_S8x1x4096_S8x4096x4096_0_1_2 (broadcastInDim S8x1x4096 ![0, 2] bcast_S8x4096_S8x1x4096_0_2 (norms y)) (ix3 b n k)
      = norms y (ix2 b k) := by
    rw [broadcastInDim_apply (k := ix3 (n0 := 8) (n1 := 1) (n2 := 4096) b 0 k) (hk := fun | ⟨0, _⟩ => rfl | ⟨1, _⟩ => rfl | ⟨2, _⟩ => rfl),
      broadcastInDim_apply (k := ix2 (n0 := 8) (n1 := 4096) b k) (hk := fun | ⟨0, _⟩ => rfl | ⟨1, _⟩ => rfl)]
  have h3 : broadcastInDim S8x4096x4096 ![] bcast_S_S8x4096x4096 (constant (F := Ideal) S_ .f32 0x40000000#32) (ix3 b n k) = 2 := by
    rw [broadcastInDim_scalar_apply]; exact two
  have h4 : Host.dotGeneral (F := Ideal) dot_S8x4096x3_S8x4096x3_S8x4096x4096_2_2_1_1_0_0 none x y (ix3 b n k) = ∑ c : Fin 3, x (ix3 b n c) * y (ix3 b k c) := by
    simp only [Host.dotGeneral]
    rw [Ideal.dotGeneral_apply, ← Equiv.sum_comp (contrEquiv1 dot_S8x4096x3_S8x4096x3_S8x4096x4096_2_2_1_1_0_0 3 rfl rfl).symm]
    refine Finset.sum_congr rfl fun c _ => ?_
    have hc := contrEquiv1_symm_val dot_S8x4096x3_S8x4096x3_S8x4096x4096_2_2_1_1_0_0 3 rfl rfl c
    refine congrArg₂ (fun (i i' : S8x4096x3.Idx) => x i * y i') (funext fun a => ?_) (funext fun a => ?_)
    · match a with
      | ⟨0, _⟩ => rfl
      | ⟨1, _⟩ => rfl
      | ⟨2, _⟩ => exact Fin.ext hc
    · match a with
      | ⟨0, _⟩ => rfl
      | ⟨1, _⟩ => rfl
      | ⟨2, _⟩ => exact Fin.ext hc
  rw [h1, h2, h3, h4, norm, norm]

end Cert.ReferenceIdeal.Hand

end
-- ==== Proof.Agree.lean ====
module

public import proofs.«01_k».proof.Proof.Read
public import proofs.«01_k».proof.Proof.Entry
public import proofs.«01_k».proof.Proof.Search
public import proofs.«01_k».proof.Proof.Gaps
public import proofs.«01_k».proof.Proof.Nearest

/-!
For arguments with real coordinates the kernel's two results are the reference's: both hold, for every query, the first of the least of the
same 4096 real numbers.
-/

@[expose] public section

set_option maxRecDepth 16384

noncomputable section

namespace Cert.Agree

open Idealize.ShloMosaic Idealize.ShloMosaic.TcCoe Idealize.ShloMosaic.ValueIdx
open Idealize.SL.Sem
open Cert.KernelIdeal Cert.KernelIdeal.Gen Cert.KernelIdeal.Hand Cert.Best
open Cert.ReferenceIdeal.Hand (gap gaps gap_eq gaps_apply least nearest nearest_best least_best)
open scoped BigOperators

/-- The squared distance of two points, as both programs work it out. -/
def apart (p q : Fin 3 → ℝ) : ℝ := (∑ c, p c * p c) + (∑ c, q c * q c) - 2 * ∑ c, p c * q c

/-- The reference's distance is that number. -/
theorem gaps_real (x y : FVec Ideal S8x4096x3 .f32) (b : Fin 8) (n k : Fin 4096) (p q : Fin 3 → ℝ)
    (hp : ∀ c, x (ix3 (n0 := 8) (n1 := 4096) (n2 := 3) b n c) = (p c : EReal)) (hq : ∀ c, y (ix3 (n0 := 8) (n1 := 4096) (n2 := 3) b k c) = (q c : EReal)) :
    gaps x y (ix3 (n0 := 8) (n1 := 4096) (n2 := 4096) b n k) = (apart p q : EReal) := by
  have two : (2 : EReal) = ((2 : ℝ) : EReal) := rfl
  refine (gaps_apply x y b n k).trans ?_
  simp only [hp, hq, Fin.sum_univ_three, two, ← EReal.coe_mul, ← EReal.coe_add, ← EReal.coe_sub]
  refine congrArg _ ?_
  unfold apart
  simp only [Fin.sum_univ_three]

variable (m : (ℓ : Loc nD τ sig) → Buf (Elt Ideal) ℓ) (c : Dev nD) (x y : FVec Ideal S8x4096x3 .f32)

/-- The kernel's two entries for a query are the reference's. -/
theorem entry_eq (ex : m ((c : Thread nD τ).loc main_arg0) = x) (ey : m ((c : Thread nD τ).loc main_arg1) = y)
    (hx : ∀ i, ∃ r : ℝ, x i = (r : EReal)) (hy : ∀ i, ∃ r : ℝ, y i = (r : EReal)) (b : Fin 8) (n : Fin 4096) :
    best m c (pointOf b n) (ix3 (n0 := 1) (n1 := 1) (n2 := 1024) 0 0 (laneOf n)) = least x y (ix2 (n0 := 8) (n1 := 4096) b n)
      ∧ bestAt m c (pointOf b n) (ix3 (n0 := 1) (n1 := 1) (n2 := 1024) 0 0 (laneOf n)) = nearest x y (ix2 (n0 := 8) (n1 := 4096) b n) := by
  choose p hp using hx
  choose q hq using hy
  have hn := n.isLt
  have hquot : (pointOf b n).val / 4 = b.val := by show (b.val * 4 + n.val / 1024) / 4 = b.val; omega
  have hmod : (pointOf b n).val % 4 * 1024 + (laneOf n).val = n.val := by
    show (b.val * 4 + n.val / 1024) % 4 * 1024 + n.val % 1024 = n.val; omega
  have x0_eq : ∀ k : Fin 3, iblk m c 0 (pointOf b n) (ix3 (n0 := 1) (n1 := 3) (n2 := 1024) 0 k (laneOf n)) = (p (ix3 (n0 := 8) (n1 := 4096) (n2 := 3) b n k) : EReal) := fun k =>
    (block0_apply m c (pointOf b n) _ (ix3 (n0 := 8) (n1 := 3) (n2 := 4096) b k n) hquot.symm rfl hmod.symm).trans
      ((queries_apply m c b k n).trans ((congrFun ex _).trans (hp _)))
  have x1_eq : ∀ (j : Fin 4096) (k : Fin 3), iblk m c 1 (pointOf b n) (ix3 (n0 := 1) (n1 := 3) (n2 := 4096) 0 k j) = (q (ix3 (n0 := 8) (n1 := 4096) (n2 := 3) b j k) : EReal) := fun j k =>
    (block1_apply m c (pointOf b n) _ (ix3 (n0 := 8) (n1 := 3) (n2 := 4096) b k j) hquot.symm rfl rfl).trans
      ((candidates_apply m c b k j).trans ((congrFun ey _).trans (hq _)))
  have real : ∀ k : ℕ, gap x y (ix2 (n0 := 8) (n1 := 4096) b n) k
      = (apart (fun c => p (ix3 b n c)) (fun c => q (ix3 (n0 := 8) (n1 := 4096) (n2 := 3) b ⟨k % 4096, Nat.mod_lt _ (by decide)⟩ c)) : EReal) := fun k =>
    gaps_real x y b n ⟨k % 4096, Nat.mod_lt _ (by decide)⟩ _ _ (fun _ => hp _) (fun _ => hq _)
  have finite : ∀ k < 4096, gap x y (ix2 (n0 := 8) (n1 := 4096) b n) k < ⊤ := fun k _ => by rw [real k]; exact EReal.coe_lt_top _
  obtain ⟨i, kb, ki⟩ := block_best (k0_pay22 (iblk m c 0 (pointOf b n))) (cand (iblk m c 1 (pointOf b n))) (laneOf n) (gap x y (ix2 (n0 := 8) (n1 := 4096) b n)) finite
    fun r => funext fun k => (dist_cand (iblk m c 0 (pointOf b n)) (iblk m c 1 (pointOf b n)) k r (laneOf n) ⟨(64 * k + r.val) % 4096, Nat.mod_lt _ (by decide)⟩ rfl
      _ _ x0_eq (x1_eq _)).trans (real (64 * k + r.val)).symm
  obtain ⟨v', i', rb, ri⟩ := nearest_best x y (ix2 (n0 := 8) (n1 := 4096) b n) finite
  obtain ⟨-, same⟩ := kb.unique rb
  exact ⟨(least_best x y _ finite kb).symm, ki.trans ((congrArg _ same).trans ri.symm)⟩

/-- The two results after the run are the reference's functions of the arguments. -/
theorem results_eq (ex : m ((c : Thread nD τ).loc main_arg0) = x) (ey : m ((c : Thread nD τ).loc main_arg1) = y)
    (hx : ∀ i, ∃ r : ℝ, x i = (r : EReal)) (hy : ∀ i, ∃ r : ℝ, y i = (r : EReal)) :
    shapeCast S8x4096 (stacked (best m c)) shapeCasts_S32x1x1024_S8x4096 = least x y
      ∧ shapeCast S8x4096 (stacked (bestAt m c)) shapeCasts_S32x1x1024_S8x4096 = nearest x y := by
  have at_entry : ∀ j : S8x4096.Idx, ∃ (b : Fin 8) (n : Fin 4096), j = ix2 (n0 := 8) (n1 := 4096) b n := fun j => ⟨j 0, j 1, eq_ix2 j⟩
  constructor <;> funext j <;> obtain ⟨b, n, rfl⟩ := at_entry j <;> refine (flat_apply _ b n).trans ?_
  · exact (entry_eq m c x y ex ey hx hy b n).1
  · exact (entry_eq m c x y ex ey hx hy b n).2

/-- Every fair run of the kernel ends with the reference's results, the arguments as they were. -/
theorem run (ρ : Dev nD → PrngReg) (x y : Dev nD → FVec Ideal S8x4096x3 .f32) (ex : ∀ c : Dev nD, m ((c : Thread nD τ).loc main_arg0) = x c)
    (ey : ∀ c : Dev nD, m ((c : Thread nD τ).loc main_arg1) = y c) (hx : ∀ c i, ∃ r : ℝ, x c i = (r : EReal)) (hy : ∀ c i, ∃ r : ℝ, y c i = (r : EReal)) :
    θ_run defs (onTc (τ := τ) (main (F := Ideal))) ⟨m, fun _ => 0, ρ⟩ fun r => ∀ c : Dev nD,
      r.2.mem ((c.tc : Thread nD τ).loc main_v0_0) = least (x c) (y c)
      ∧ r.2.mem ((c.tc : Thread nD τ).loc main_v0_1) = nearest (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨e0, e1⟩ := results_eq m c (x c) (y c) (ex c) (ey c) (hx c) (hy c)
    refine ⟨?_, ?_, (h.2 c).1, (h.2 c).2⟩
    · exact ((h.1 c).2 main_v0_0 (Pipeline.mem_restRefs_of main_v0_0 (by decide) (by decide))).trans ((tail_0 m c).trans e0)
    · exact ((h.1 c).2 main_v0_1 (Pipeline.mem_restRefs_of main_v0_1 (by decide) (by decide))).trans ((tail_1 m c).trans e1))
    (θ_run_and (run_main m ρ) (frame_of m ρ (dats m) (A_eq m) (run_main m ρ)))

end Cert.Agree

end
-- ==== Proof.lean ====
/- The certificate's claims, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Run
public import proofs.«01_k».proof.Proof.KernelFrame
public import proofs.«01_k».proof.Proof.Reference
public import proofs.«01_k».proof.Proof.Finite
public import proofs.«01_k».proof.Proof.Agree
public import Idealize.ShloMosaic.Adequacy
public import Idealize.ShloMosaic.Init

@[expose] public section

noncomputable section

namespace Cert.Proof

open Idealize.ShloMosaic Idealize.SL.Sem

/-- The compiled kernel runs to the end, leaves its arguments and its counters as they were. -/
theorem frame_kernel : Cert.quiescent_Kernel := fun m ρ _ => Cert.Kernel.Hand.frame m ρ

/-- So does the kernel over the extended reals. -/
theorem frame_kernelIdeal : Cert.quiescent_KernelIdeal := fun m ρ _ => Cert.KernelIdeal.Hand.frame m ρ

/-- So does the reference. -/
theorem frame_reference : Cert.quiescent_ReferenceIdeal := fun m ρ _ => Cert.ReferenceIdeal.Hand.frame m ρ

/-- The two frames hold whatever the arguments, so under the precondition too. -/
theorem frame_kernelIdeal_finite : Cert.quiescent_KernelIdeal_pre_finite := fun m ρ _ => Cert.KernelIdeal.Hand.frame m ρ
theorem frame_reference_finite : Cert.quiescent_ReferenceIdeal_pre_finite := fun m ρ _ => Cert.ReferenceIdeal.Hand.frame m ρ

/-- For finite arguments both programs end with the same two results: the least distances and the numbers of the candidates they stand at. -/
theorem algebraic : Cert.algebraic_KernelIdeal_ReferenceIdeal_pre_finite := fun m g m' g' pre same =>
  let x : Dev Cert.ReferenceIdeal.nD → FVec Ideal Cert.ReferenceIdeal.S8x4096x3 .f32 := fun c =>
    m' ((c.tc : Thread Cert.ReferenceIdeal.nD Cert.ReferenceIdeal.τ).loc Cert.ReferenceIdeal.main_arg0)
  let y : Dev Cert.ReferenceIdeal.nD → FVec Ideal Cert.ReferenceIdeal.S8x4096x3 .f32 := fun c =>
    m' ((c.tc : Thread Cert.ReferenceIdeal.nD Cert.ReferenceIdeal.τ).loc Cert.ReferenceIdeal.main_arg1)
  ⟨fun c => Cert.ReferenceIdeal.Hand.least (x c) (y c), fun c => Cert.ReferenceIdeal.Hand.nearest (x c) (y c),
    Cert.Agree.run m g x y (fun c => (same c).1.symm) (fun c => (same c).2.symm)
      (fun c i => ((Cert.Finite.reals _ _ (pre c)).1 i).imp fun _ e => (congrFun (same c).1 i).trans e)
      (fun c i => ((Cert.Finite.reals _ _ (pre c)).2 i).imp fun _ e => (congrFun (same c).2 i).trans e),
    Cert.ReferenceIdeal.Hand.run m' g'⟩

/-- The certificate. -/
theorem claim : Cert.Claim :=
  ⟨Cert.Kernel.Gen.facts, Cert.KernelIdeal.Gen.facts, Cert.ReferenceIdeal.Gen.facts, Cert.Pre_finite.Gen.facts,
    frame_kernel, frame_kernelIdeal, frame_kernelIdeal_finite, frame_reference, frame_reference_finite, trivial, algebraic⟩

end Cert.Proof

end
